-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S90x90 : Shape := ⟨2, ![90, 90]⟩
abbrev S640x90x90 : Shape := ⟨3, ![640, 90, 90]⟩
abbrev S32x8100 : Shape := ⟨2, ![32, 8100]⟩
abbrev S_ : Shape := ⟨0, ![]⟩
abbrev S90x16 : Shape := ⟨2, ![90, 16]⟩
abbrev S1440x5760 : Shape := ⟨2, ![1440, 5760]⟩
abbrev S5760 : Shape := ⟨1, ![5760]⟩
abbrev S16x32 : Shape := ⟨2, ![16, 32]⟩
abbrev S1x5760 : Shape := ⟨2, ![1, 5760]⟩
abbrev S20x32x5760 : Shape := ⟨3, ![20, 32, 5760]⟩
abbrev S80x90x90 : Shape := ⟨3, ![80, 90, 90]⟩
abbrev S1440x1920 : Shape := ⟨2, ![1440, 1920]⟩
abbrev S1x1920 : Shape := ⟨2, ![1, 1920]⟩
abbrev S20x8x1920 : Shape := ⟨3, ![20, 8, 1920]⟩
abbrev S32x20x1440 : Shape := ⟨3, ![32, 20, 1440]⟩
abbrev S1x90x90 : Shape := ⟨3, ![1, 90, 90]⟩
abbrev S1x90x16 : Shape := ⟨3, ![1, 90, 16]⟩
abbrev S160x90x16 : Shape := ⟨3, ![160, 90, 16]⟩
abbrev S8x20x1440 : Shape := ⟨3, ![8, 20, 1440]⟩
abbrev S160x1440 : Shape := ⟨2, ![160, 1440]⟩
abbrev S160x1920 : Shape := ⟨2, ![160, 1920]⟩
abbrev S8x20x1920 : Shape := ⟨3, ![8, 20, 1920]⟩
abbrev S32x90x90 : Shape := ⟨3, ![32, 90, 90]⟩
abbrev S1x32x5760 : Shape := ⟨3, ![1, 32, 5760]⟩
abbrev S32x1440 : Shape := ⟨2, ![32, 1440]⟩
abbrev S32x5760 : Shape := ⟨2, ![32, 5760]⟩
abbrev S32x2944 : Shape := ⟨2, ![32, 2944]⟩
abbrev S1440x2944 : Shape := ⟨2, ![1440, 2944]⟩
abbrev S32x2816 : Shape := ⟨2, ![32, 2816]⟩
abbrev S1440x2816 : Shape := ⟨2, ![1440, 2816]⟩
abbrev S32x64 : Shape := ⟨2, ![32, 64]⟩
abbrev S32x1376 : Shape := ⟨2, ![32, 1376]⟩
abbrev S32x90x16 : Shape := ⟨3, ![32, 90, 16]⟩
abbrev S90x32 : Shape := ⟨2, ![90, 32]⟩
abbrev S90x1024 : Shape := ⟨2, ![90, 1024]⟩

abbrev nBuf : Space → Nat
  | .hbm => 15
  | .vmem => 24
  | .smem => 0
  | _ => 0

abbrev bufTy : (tb : Table) → Fin (tcTables nBuf tb) → BufTy
  | .hbm, ⟨0, _⟩ => ⟨S90x90, .f32⟩
  | .hbm, ⟨1, _⟩ => ⟨S640x90x90, .f32⟩
  | .hbm, ⟨2, _⟩ => ⟨S90x90, .f32⟩
  | .hbm, ⟨3, _⟩ => ⟨S640x90x90, .f32⟩
  | .hbm, ⟨4, _⟩ => ⟨S32x8100, .f32⟩
  | .hbm, ⟨5, _⟩ => ⟨S_, .f32⟩
  | .hbm, ⟨6, _⟩ => ⟨S90x16, .f32⟩
  | .hbm, ⟨7, _⟩ => ⟨S1440x5760, .f32⟩
  | .hbm, ⟨8, _⟩ => ⟨S1440x5760, .f32⟩
  | .hbm, ⟨9, _⟩ => ⟨S5760, .f32⟩
  | .hbm, ⟨10, _⟩ => ⟨S16x32, .f32⟩
  | .hbm, ⟨11, _⟩ => ⟨S1x5760, .f32⟩
  | .hbm, ⟨12, _⟩ => ⟨S20x32x5760, .bf16⟩
  | .hbm, ⟨13, _⟩ => ⟨S32x90x90, .f32⟩
  | .hbm, ⟨14, _⟩ => ⟨S32x8100, .f32⟩
  | .local _ .vmem, ⟨0, _⟩ => ⟨S80x90x90, .f32⟩
  | .local _ .vmem, ⟨1, _⟩ => ⟨S80x90x90, .f32⟩
  | .local _ .vmem, ⟨2, _⟩ => ⟨S80x90x90, .f32⟩
  | .local _ .vmem, ⟨3, _⟩ => ⟨S80x90x90, .f32⟩
  | .local _ .vmem, ⟨4, _⟩ => ⟨S80x90x90, .f32⟩
  | .local _ .vmem, ⟨5, _⟩ => ⟨S80x90x90, .f32⟩
  | .local _ .vmem, ⟨6, _⟩ => ⟨S80x90x90, .f32⟩
  | .local _ .vmem, ⟨7, _⟩ => ⟨S80x90x90, .f32⟩
  | .local _ .vmem, ⟨8, _⟩ => ⟨S90x16, .f32⟩
  | .local _ .vmem, ⟨9, _⟩ => ⟨S1440x1920, .f32⟩
  | .local _ .vmem, ⟨10, _⟩ => ⟨S1440x1920, .f32⟩
  | .local _ .vmem, ⟨11, _⟩ => ⟨S1x1920, .f32⟩
  | .local _ .vmem, ⟨12, _⟩ => ⟨S1x1920, .f32⟩
  | .local _ .vmem, ⟨13, _⟩ => ⟨S20x8x1920, .bf16⟩
  | .local _ .vmem, ⟨14, _⟩ => ⟨S20x8x1920, .bf16⟩
  | .local _ .vmem, ⟨15, _⟩ => ⟨S32x20x1440, .bf16⟩
  | .local _ .vmem, ⟨16, _⟩ => ⟨S1x32x5760, .bf16⟩
  | .local _ .vmem, ⟨17, _⟩ => ⟨S1x32x5760, .bf16⟩
  | .local _ .vmem, ⟨18, _⟩ => ⟨S1440x5760, .f32⟩
  | .local _ .vmem, ⟨19, _⟩ => ⟨S90x90, .f32⟩
  | .local _ .vmem, ⟨20, _⟩ => ⟨S16x32, .f32⟩
  | .local _ .vmem, ⟨21, _⟩ => ⟨S32x90x90, .f32⟩
  | .local _ .vmem, ⟨22, _⟩ => ⟨S32x1440, .f32⟩
  | .local _ .vmem, ⟨23, _⟩ => ⟨S32x1440, .f32⟩
  | _, _ => ⟨S90x90, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg2_0 : Ref sig .tc := ⟨.vmem, 19, rfl⟩
abbrev cc1_stg3_0 : Ref sig .tc := ⟨.vmem, 20, rfl⟩
abbrev cc1_stg4_0 : Ref sig .tc := ⟨.vmem, 21, rfl⟩
abbrev cc1_scratch0 : Ref sig .tc := ⟨.vmem, 22, rfl⟩
abbrev cc1_scratch1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc1_sem0_0 : DmaSem sig := 15
abbrev cc1_sem0_1 : DmaSem sig := 16
abbrev cc1_sem1_0 : DmaSem sig := 17
abbrev cc1_sem2_0 : DmaSem sig := 18
abbrev cc1_sem3_0 : DmaSem sig := 19
abbrev cc1_sem4_0 : DmaSem sig := 20

abbrev nD : Nat := 1
abbrev τ : Topo := Topo.v7x

variable {F : FTy → Type} [FloatOps F]

abbrev grid0 : Pipeline.Grid := ⟨2, ![3, 4], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_off1 (i : grid0.Coords) : Fin 3 → Nat :=
  let arg1 : BitVec 32 := BitVec.ofNat 32 (i 1).val
  let c8_i32_1372 : BitVec 32 := 8#32
  let v1462 : BitVec 32 := Scalar.muli arg1 c8_i32_1372
  let v1463 : Index := Scalar.indexCast v1462
  let c0_1373 : Index := 0#32
  let c0_1374 : Index := 0#32
  ![v1463.toNat, 0, 0]
def k0_off2 (i : grid0.Coords) : Fin 3 → Nat :=
  let arg1 : BitVec 32 := BitVec.ofNat 32 (i 1).val
  let c8_i32 : BitVec 32 := 8#32
  let v3 : BitVec 32 := Scalar.muli arg1 c8_i32
  let v4 : Index := Scalar.indexCast v3
  let c0 : Index := 0#32
  let c0_1 : Index := 0#32
  ![v4.toNat, 0, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c2_i32 : BitVec 32 := 2#32
  let v1 : BitVec 32 := Scalar.muli c2_i32 arg1
  let c6_i32 : BitVec 32 := 6#32
  let v2 : BitVec 32 := Scalar.select v0 v1 c6_i32
  let c0_i32_0 : BitVec 32 := 0#32
  let c0_i32_1 : BitVec 32 := 0#32
  let c0_i32_2 : BitVec 32 := 0#32
  ![v2.toNat, c0_i32_0.toNat, c0_i32_1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c2_i32 : BitVec 32 := 2#32
  let v1 : BitVec 32 := Scalar.muli c2_i32 arg1
  let c1_i32 : BitVec 32 := 1#32
  let v2 : BitVec 32 := Scalar.addi v1 c1_i32
  let c7_i32 : BitVec 32 := 7#32
  let v3 : BitVec 32 := Scalar.select v0 v2 c7_i32
  let c0_i32_0 : BitVec 32 := 0#32
  let c0_i32_1 : BitVec 32 := 0#32
  let c0_i32_2 : BitVec 32 := 0#32
  ![v3.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c2_i32 : BitVec 32 := 2#32
  let v1 : BitVec 32 := Scalar.muli c2_i32 arg1
  let c6_i32 : BitVec 32 := 6#32
  let v2 : BitVec 32 := Scalar.select v0 v1 c6_i32
  let c0_i32_0 : BitVec 32 := 0#32
  let c0_i32_1 : BitVec 32 := 0#32
  let c0_i32_2 : BitVec 32 := 0#32
  ![v2.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c2_i32 : BitVec 32 := 2#32
  let v1 : BitVec 32 := Scalar.muli c2_i32 arg1
  let c1_i32 : BitVec 32 := 1#32
  let v2 : BitVec 32 := Scalar.addi v1 c1_i32
  let c7_i32 : BitVec 32 := 7#32
  let v3 : BitVec 32 := Scalar.select v0 v2 c7_i32
  let c0_i32_0 : BitVec 32 := 0#32
  let c0_i32_1 : BitVec 32 := 0#32
  let c0_i32_2 : BitVec 32 := 0#32
  ![v3.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

abbrev stage0_0 : Fin 2 → Memref sig .tc .vmem S80x90x90 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S80x90x90 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S80x90x90 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S80x90x90 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S90x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1440x1920 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1920 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S20x8x1920 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev grid1 : Pipeline.Grid := ⟨1, ![20], ![false]⟩

def k1_cond2 (i : grid1.Coords) : BitVec 1 :=
  let arg0 : BitVec 32 := BitVec.ofNat 32 (i 0).val
  let c19_i32 : BitVec 32 := 19#32
  let v37 : BitVec 1 := Scalar.cmpi .eq arg0 c19_i32
  let v38 : BitVec 32 := Scalar.extui v37
  let c0_i32_15 : BitVec 32 := 0#32
  let v39 : BitVec 1 := Scalar.cmpi .ne v38 c0_i32_15
  v39

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage1_0 : Fin 2 → Memref sig .tc .vmem S1x32x5760 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1440x5760 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S90x90 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S16x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S32x90x90 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]
-- ==== ReferenceIdeal.lean ====
abbrev S90x90 : Shape := ⟨2, ![90, 90]⟩
abbrev S640x90x90 : Shape := ⟨3, ![640, 90, 90]⟩
abbrev S32x8100 : Shape := ⟨2, ![32, 8100]⟩
abbrev S_ : Shape := ⟨0, ![]⟩
abbrev S90x16 : Shape := ⟨2, ![90, 16]⟩
abbrev S1440x5760 : Shape := ⟨2, ![1440, 5760]⟩
abbrev S5760 : Shape := ⟨1, ![5760]⟩
abbrev S16x32 : Shape := ⟨2, ![16, 32]⟩
abbrev S640x90x16 : Shape := ⟨3, ![640, 90, 16]⟩
abbrev S32x20x1440 : Shape := ⟨3, ![32, 20, 1440]⟩
abbrev S32x1440 : Shape := ⟨2, ![32, 1440]⟩
abbrev S20x32x1440 : Shape := ⟨3, ![20, 32, 1440]⟩
abbrev S1x32x1440 : Shape := ⟨3, ![1, 32, 1440]⟩
abbrev S32x5760 : Shape := ⟨2, ![32, 5760]⟩
abbrev S1x5760 : Shape := ⟨2, ![1, 5760]⟩
abbrev S32x90x16 : Shape := ⟨3, ![32, 90, 16]⟩
abbrev S1x90x90 : Shape := ⟨3, ![1, 90, 90]⟩
abbrev S32x90x90 : Shape := ⟨3, ![32, 90, 90]⟩
abbrev S32x90x32 : Shape := ⟨3, ![32, 90, 32]⟩
abbrev S32x32x90 : Shape := ⟨3, ![32, 32, 90]⟩

abbrev nBuf : Space → Nat
  | .hbm => 108
  | .vmem => 0
  | .smem => 0
  | _ => 0

abbrev bufTy : (tb : Table) → Fin (tcTables nBuf tb) → BufTy
  | .hbm, ⟨0, _⟩ => ⟨S90x90, .f32⟩
  | .hbm, ⟨1, _⟩ => ⟨S640x90x90, .f32⟩
  | .hbm, ⟨2, _⟩ => ⟨S90x90, .f32⟩
  | .hbm, ⟨3, _⟩ => ⟨S640x90x90, .f32⟩
  | .hbm, ⟨4, _⟩ => ⟨S32x8100, .f32⟩
  | .hbm, ⟨5, _⟩ => ⟨S_, .f32⟩
  | .hbm, ⟨6, _⟩ => ⟨S90x16, .f32⟩
  | .hbm, ⟨7, _⟩ => ⟨S1440x5760, .f32⟩
  | .hbm, ⟨8, _⟩ => ⟨S1440x5760, .f32⟩
  | .hbm, ⟨9, _⟩ => ⟨S5760, .f32⟩
  | .hbm, ⟨10, _⟩ => ⟨S16x32, .f32⟩
  | .hbm, ⟨11, _⟩ => ⟨S640x90x16, .f32⟩
  | .hbm, ⟨12, _⟩ => ⟨S640x90x16, .f32⟩
  | .hbm, ⟨13, _⟩ => ⟨S_, .f32⟩
  | .hbm, ⟨14, _⟩ => ⟨S640x90x16, .f32⟩
  | .hbm, ⟨15, _⟩ => ⟨S640x90x16, .f32⟩
  | .hbm, ⟨16, _⟩ => ⟨S32x20x1440, .f32⟩
  | .hbm, ⟨17, _⟩ => ⟨S_, .f32⟩
  | .hbm, ⟨18, _⟩ => ⟨S32x1440, .f32⟩
  | .hbm, ⟨19, _⟩ => ⟨S_, .f32⟩
  | .hbm, ⟨20, _⟩ => ⟨S32x1440, .f32⟩
  | .hbm, ⟨21, _⟩ => ⟨S20x32x1440, .f32⟩
  | .hbm, ⟨22, _⟩ => ⟨S_, .i32⟩
  | .hbm, ⟨23, _⟩ => ⟨S20x32x1440, .f32⟩
  | .hbm, ⟨24, _⟩ => ⟨S1440x5760, .f32⟩
  | .hbm, ⟨25, _⟩ => ⟨S1440x5760, .f32⟩
  | .hbm, ⟨26, _⟩ => ⟨S5760, .f32⟩
  | .hbm, ⟨27, _⟩ => ⟨S_, .i32⟩
  | .hbm, ⟨28, _⟩ => ⟨S32x1440, .f32⟩
  | .hbm, ⟨29, _⟩ => ⟨S32x1440, .f32⟩
  | .hbm, ⟨30, _⟩ => ⟨S_, .i32⟩
  | .hbm, ⟨31, _⟩ => ⟨S_, .i1⟩
  | .hbm, ⟨32, _⟩ => ⟨S_, .i32⟩
  | .hbm, ⟨33, _⟩ => ⟨S_, .i32⟩
  | .hbm, ⟨34, _⟩ => ⟨S1x32x1440, .f32⟩
  | .hbm, ⟨35, _⟩ => ⟨S32x1440, .f32⟩
  | .hbm, ⟨36, _⟩ => ⟨S32x5760, .f32⟩
  | .hbm, ⟨37, _⟩ => ⟨S32x5760, .f32⟩
  | .hbm, ⟨38, _⟩ => ⟨S32x5760, .f32⟩
  | .hbm, ⟨39, _⟩ => ⟨S1x5760, .f32⟩
  | .hbm, ⟨40, _⟩ => ⟨S32x5760, .f32⟩
  | .hbm, ⟨41, _⟩ => ⟨S32x5760, .f32⟩
  | .hbm, ⟨42, _⟩ => ⟨S32x1440, .f32⟩
  | .hbm, ⟨43, _⟩ => ⟨S32x1440, .f32⟩
  | .hbm, ⟨44, _⟩ => ⟨S32x1440, .f32⟩
  | .hbm, ⟨45, _⟩ => ⟨S32x1440, .f32⟩
  | .hbm, ⟨46, _⟩ => ⟨S32x1440, .f32⟩
  | .hbm, ⟨47, _⟩ => ⟨S32x1440, .f32⟩
  | .hbm, ⟨48, _⟩ => ⟨S_, .f32⟩
  | .hbm, ⟨49, _⟩ => ⟨S32x1440, .f32⟩
  | .hbm, ⟨50, _⟩ => ⟨S32x1440, .f32⟩
  | .hbm, ⟨51, _⟩ => ⟨S_, .f32⟩
  | .hbm, ⟨52, _⟩ => ⟨S32x1440, .f32⟩
  | .hbm, ⟨53, _⟩ => ⟨S32x1440, .f32⟩
  | .hbm, ⟨54, _⟩ => ⟨S32x1440, .f32⟩
  | .hbm, ⟨55, _⟩ => ⟨S32x1440, .f32⟩
  | .hbm, ⟨56, _⟩ => ⟨S_, .f32⟩
  | .hbm, ⟨57, _⟩ => ⟨S32x1440, .f32⟩
  | .hbm, ⟨58, _⟩ => ⟨S32x1440, .f32⟩
  | .hbm, ⟨59, _⟩ => ⟨S_, .f32⟩
  | .hbm, ⟨60, _⟩ => ⟨S32x1440, .f32⟩
  | .hbm, ⟨61, _⟩ => ⟨S32x1440, .f32⟩
  | .hbm, ⟨62, _⟩ => ⟨S32x1440, .f32⟩
  | .hbm, ⟨63, _⟩ => ⟨S32x1440, .f32⟩
  | .hbm, ⟨64, _⟩ => ⟨S32x1440, .f32⟩
  | .hbm, ⟨65, _⟩ => ⟨S_, .f32⟩
  | .hbm, ⟨66, _⟩ => ⟨S32x1440, .f32⟩
  | .hbm, ⟨67, _⟩ => ⟨S32x1440, .f32⟩
  | .hbm, ⟨68, _⟩ => ⟨S_, .f32⟩
  | .hbm, ⟨69, _⟩ => ⟨S32x1440, .f32⟩
  | .hbm, ⟨70, _⟩ => ⟨S32x1440, .f32⟩
  | .hbm, ⟨71, _⟩ => ⟨S32x1440, .f32⟩
  | .hbm, ⟨72, _⟩ => ⟨S32x1440, .f32⟩
  | .hbm, ⟨73, _⟩ => ⟨S32x1440, .f32⟩
  | .hbm, ⟨74, _⟩ => ⟨S32x1440, .f32⟩
  | .hbm, ⟨75, _⟩ => ⟨S32x1440, .f32⟩
  | .hbm, ⟨76, _⟩ => ⟨S_, .i32⟩
  | .hbm, ⟨77, _⟩ => ⟨S_, .i32⟩
  | .hbm, ⟨78, _⟩ => ⟨S32x90x16, .f32⟩
  | .hbm, ⟨79, _⟩ => ⟨S1x90x90, .f32⟩
  | .hbm, ⟨80, _⟩ => ⟨S32x90x90, .f32⟩
  | .hbm, ⟨81, _⟩ => ⟨S32x90x32, .f32⟩
  | .hbm, ⟨82, _⟩ => ⟨S32x90x32, .f32⟩
  | .hbm, ⟨83, _⟩ => ⟨S_, .f32⟩
  | .hbm, ⟨84, _⟩ => ⟨S32x90x32, .f32⟩
  | .hbm, ⟨85, _⟩ => ⟨S32x90x32, .f32⟩
  | .hbm, ⟨86, _⟩ => ⟨S32x32x90, .f32⟩
  | .hbm, ⟨87, _⟩ => ⟨S32x90x90, .f32⟩
  | .hbm, ⟨88, _⟩ => ⟨S_, .f32⟩
  | .hbm, ⟨89, _⟩ => ⟨S32x90x90, .f32⟩
  | .hbm, ⟨90, _⟩ => ⟨S32x90x90, .f32⟩
  | .hbm, ⟨91, _⟩ => ⟨S90x90, .i32⟩
  | .hbm, ⟨92, _⟩ => ⟨S90x90, .i32⟩
  | .hbm, ⟨93, _⟩ => ⟨S_, .i32⟩
  | .hbm, ⟨94, _⟩ => ⟨S90x90, .i32⟩
  | .hbm, ⟨95, _⟩ => ⟨S90x90, .i32⟩
  | .hbm, ⟨96, _⟩ => ⟨S90x90, .i1⟩
  | .hbm, ⟨97, _⟩ => ⟨S90x90, .f32⟩
  | .hbm, ⟨98, _⟩ => ⟨S_, .f32⟩
  | .hbm, ⟨99, _⟩ => ⟨S90x90, .f32⟩
  | .hbm, ⟨100, _⟩ => ⟨S90x90, .f32⟩
  | .hbm, ⟨101, _⟩ => ⟨S1x90x90, .f32⟩
  | .hbm, ⟨102, _⟩ => ⟨S32x90x90, .f32⟩
  | .hbm, ⟨103, _⟩ => ⟨S32x90x90, .f32⟩
  | .hbm, ⟨104, _⟩ => ⟨S1x90x90, .f32⟩
  | .hbm, ⟨105, _⟩ => ⟨S32x90x90, .f32⟩
  | .hbm, ⟨106, _⟩ => ⟨S32x90x90, .f32⟩
  | .hbm, ⟨107, _⟩ => ⟨S32x8100, .f32⟩
  | _, _ => ⟨S90x90, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_call0_cst : Ref sig .tc := ⟨.hbm, 13, rfl⟩
abbrev main_call0_v0 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_v6 : Ref sig .tc := ⟨.hbm, 21, rfl⟩
abbrev main_c : Ref sig .tc := ⟨.hbm, 22, rfl⟩
abbrev main_v7_0 : Ref sig .tc := ⟨.hbm, 23, rfl⟩
abbrev main_v7_1 : Ref sig .tc := ⟨.hbm, 24, rfl⟩
abbrev main_v7_2 : Ref sig .tc := ⟨.hbm, 25, rfl⟩
abbrev main_v7_3 : Ref sig .tc := ⟨.hbm, 26, rfl⟩
abbrev main_v7_4 : Ref sig .tc := ⟨.hbm, 27, rfl⟩
abbrev main_v7_5 : Ref sig .tc := ⟨.hbm, 28, rfl⟩
abbrev main_v7_6 : Ref sig .tc := ⟨.hbm, 29, rfl⟩
abbrev main_while0c_c_9 : Ref sig .tc := ⟨.hbm, 30, rfl⟩
abbrev main_while0c_v32 : Ref sig .tc := ⟨.hbm, 31, rfl⟩
abbrev main_while0b_call1_c : Ref sig .tc := ⟨.hbm, 32, rfl⟩
abbrev main_while0b_call1_c_0 : Ref sig .tc := ⟨.hbm, 33, rfl⟩
abbrev main_while0b_call1_v0 : Ref sig .tc := ⟨.hbm, 34, rfl⟩
abbrev main_while0b_v32 : Ref sig .tc := ⟨.hbm, 35, rfl⟩
abbrev main_while0b_v33 : Ref sig .tc := ⟨.hbm, 36, rfl⟩
abbrev main_while0b_v34 : Ref sig .tc := ⟨.hbm, 37, rfl⟩
abbrev main_while0b_v35 : Ref sig .tc := ⟨.hbm, 38, rfl⟩
abbrev main_while0b_v36 : Ref sig .tc := ⟨.hbm, 39, rfl⟩
abbrev main_while0b_v37 : Ref sig .tc := ⟨.hbm, 40, rfl⟩
abbrev main_while0b_v38 : Ref sig .tc := ⟨.hbm, 41, rfl⟩
abbrev main_while0b_v39 : Ref sig .tc := ⟨.hbm, 42, rfl⟩
abbrev main_while0b_v40 : Ref sig .tc := ⟨.hbm, 43, rfl⟩
abbrev main_while0b_v41 : Ref sig .tc := ⟨.hbm, 44, rfl⟩
abbrev main_while0b_v42 : Ref sig .tc := ⟨.hbm, 45, rfl⟩
abbrev main_while0b_v43 : Ref sig .tc := ⟨.hbm, 46, rfl⟩
abbrev main_while0b_v44 : Ref sig .tc := ⟨.hbm, 47, rfl⟩
abbrev main_while0b_cst_9 : Ref sig .tc := ⟨.hbm, 48, rfl⟩
abbrev main_while0b_v45 : Ref sig .tc := ⟨.hbm, 49, rfl⟩
abbrev main_while0b_v46 : Ref sig .tc := ⟨.hbm, 50, rfl⟩
abbrev main_while0b_cst_10 : Ref sig .tc := ⟨.hbm, 51, rfl⟩
abbrev main_while0b_v47 : Ref sig .tc := ⟨.hbm, 52, rfl⟩
abbrev main_while0b_v48 : Ref sig .tc := ⟨.hbm, 53, rfl⟩
abbrev main_while0b_v49 : Ref sig .tc := ⟨.hbm, 54, rfl⟩
abbrev main_while0b_v50 : Ref sig .tc := ⟨.hbm, 55, rfl⟩
abbrev main_while0b_cst_11 : Ref sig .tc := ⟨.hbm, 56, rfl⟩
abbrev main_while0b_v51 : Ref sig .tc := ⟨.hbm, 57, rfl⟩
abbrev main_while0b_v52 : Ref sig .tc := ⟨.hbm, 58, rfl⟩
abbrev main_while0b_cst_12 : Ref sig .tc := ⟨.hbm, 59, rfl⟩
abbrev main_while0b_v53 : Ref sig .tc := ⟨.hbm, 60, rfl⟩
abbrev main_while0b_v54 : Ref sig .tc := ⟨.hbm, 61, rfl⟩
abbrev main_while0b_v55 : Ref sig .tc := ⟨.hbm, 62, rfl⟩
abbrev main_while0b_v56 : Ref sig .tc := ⟨.hbm, 63, rfl⟩
abbrev main_while0b_v57 : Ref sig .tc := ⟨.hbm, 64, rfl⟩
abbrev main_while0b_cst_13 : Ref sig .tc := ⟨.hbm, 65, rfl⟩
abbrev main_while0b_v58 : Ref sig .tc := ⟨.hbm, 66, rfl⟩
abbrev main_while0b_v59 : Ref sig .tc := ⟨.hbm, 67, rfl⟩
abbrev main_while0b_cst_14 : Ref sig .tc := ⟨.hbm, 68, rfl⟩
abbrev main_while0b_v60 : Ref sig .tc := ⟨.hbm, 69, rfl⟩
abbrev main_while0b_v61 : Ref sig .tc := ⟨.hbm, 70, rfl⟩
abbrev main_while0b_v62 : Ref sig .tc := ⟨.hbm, 71, rfl⟩
abbrev main_while0b_v63 : Ref sig .tc := ⟨.hbm, 72, rfl⟩
abbrev main_while0b_v64 : Ref sig .tc := ⟨.hbm, 73, rfl⟩
abbrev main_while0b_v65 : Ref sig .tc := ⟨.hbm, 74, rfl⟩
abbrev main_while0b_v66 : Ref sig .tc := ⟨.hbm, 75, rfl⟩
abbrev main_while0b_c_15 : Ref sig .tc := ⟨.hbm, 76, rfl⟩
abbrev main_while0b_v67 : Ref sig .tc := ⟨.hbm, 77, rfl⟩
abbrev main_v8 : Ref sig .tc := ⟨.hbm, 78, rfl⟩
abbrev main_v9 : Ref sig .tc := ⟨.hbm, 79, rfl⟩
abbrev main_v10 : Ref sig .tc := ⟨.hbm, 80, rfl⟩
abbrev main_v11 : Ref sig .tc := ⟨.hbm, 81, rfl⟩
abbrev main_v12 : Ref sig .tc := ⟨.hbm, 82, rfl⟩
abbrev main_call2_cst : Ref sig .tc := ⟨.hbm, 83, rfl⟩
abbrev main_call2_v0 : Ref sig .tc := ⟨.hbm, 84, rfl⟩
abbrev main_v13 : Ref sig .tc := ⟨.hbm, 85, rfl⟩
abbrev main_v14 : Ref sig .tc := ⟨.hbm, 86, rfl⟩
abbrev main_v15 : Ref sig .tc := ⟨.hbm, 87, rfl⟩
abbrev main_call3_cst : Ref sig .tc := ⟨.hbm, 88, rfl⟩
abbrev main_call3_v0 : Ref sig .tc := ⟨.hbm, 89, rfl⟩
abbrev main_v16 : Ref sig .tc := ⟨.hbm, 90, rfl⟩
abbrev main_v17 : Ref sig .tc := ⟨.hbm, 91, rfl⟩
abbrev main_v18 : Ref sig .tc := ⟨.hbm, 92, rfl⟩
abbrev main_c_1 : Ref sig .tc := ⟨.hbm, 93, rfl⟩
abbrev main_v19 : Ref sig .tc := ⟨.hbm, 94, rfl⟩
abbrev main_v20 : Ref sig .tc := ⟨.hbm, 95, rfl⟩
abbrev main_v21 : Ref sig .tc := ⟨.hbm, 96, rfl⟩
abbrev main_v22 : Ref sig .tc := ⟨.hbm, 97, rfl⟩
abbrev main_cst_2 : Ref sig .tc := ⟨.hbm, 98, rfl⟩
abbrev main_v23 : Ref sig .tc := ⟨.hbm, 99, rfl⟩
abbrev main_v24 : Ref sig .tc := ⟨.hbm, 100, rfl⟩
abbrev main_v25 : Ref sig .tc := ⟨.hbm, 101, rfl⟩
abbrev main_v26 : Ref sig .tc := ⟨.hbm, 102, rfl⟩
abbrev main_v27 : Ref sig .tc := ⟨.hbm, 103, rfl⟩
abbrev main_v28 : Ref sig .tc := ⟨.hbm, 104, rfl⟩
abbrev main_v29 : Ref sig .tc := ⟨.hbm, 105, rfl⟩
abbrev main_v30 : Ref sig .tc := ⟨.hbm, 106, rfl⟩
abbrev main_v31 : Ref sig .tc := ⟨.hbm, 107, rfl⟩

abbrev nD : Nat := 1
abbrev τ : Topo := Topo.v7x

variable {F : FTy → Type} [FloatOps F]

abbrev main_while0_count : Scf.Loop 32 := ⟨0#32, 20#32, 1#32⟩
-- ==== Proof.KernelIdeal.Body0.lean ====
/- The first call's kernel body, run on whole staging buffers: what it writes to its output block and to the buffer it carries
   from grid point to grid point. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.VecWindow
public import Idealize.ShloMosaic.Lib.WholeRead

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The offset of the carried buffer's slab at a grid point: eight rows per step of the inner axis. -/
theorem off1_eq : ∀ i : grid0.Coords, k0_off1 i = ![8 * (i 1).val, 0, 0] := by decide +kernel
theorem off2_eq : ∀ i : grid0.Coords, k0_off2 i = ![8 * (i 1).val, 0, 0] := by decide +kernel
/-- The slab lies inside the carried buffer. -/
theorem slab_inb (n : ℕ) (hn : n < 4) : ∀ a, (![8 * n, 0, 0] : Fin 3 → ℕ) a + S8x20x1440.size a ≤ S32x20x1440.size a := by
  intro a; fin_cases a
  · show 8 * n + 8 ≤ 32; omega
  · show 0 + 20 ≤ 20; omega
  · show 0 + 1440 ≤ 1440; omega

/-- Window `n` of an 80-window block lies inside it. -/
theorem win_inb (n : ℕ) (hn : n < 80) : ∀ a, (![n, 0, 0] : Fin 3 → ℕ) a + S1x90x90.size a ≤ S80x90x90.size a := by
  intro a; fin_cases a
  · show n + 1 ≤ 80; omega
  · show 0 + 90 ≤ 90; omega
  · show 0 + 90 ≤ 90; omega

/-- The 160 stacked pieces make up the stacked shape. -/
theorem stacks_ok (f : Fin 160 → FVec F S1x90x16 .f32) :
    Shape.Concatenates ((List.ofFn fun n => (⟨S1x90x16, f n⟩ : (s : Shape) × (s.Idx → F .f32))).map (·.1)) S160x90x16 0 := by
  rw [List.map_ofFn]; exact (by decide : Shape.Concatenates (List.ofFn fun _ : Fin 160 => S1x90x16) S160x90x16 0)

/-- The slab of 160 windows' results: window `n` is `relu (a n · (f n · w))`, stacked and regrouped as 8 × 20 × 1440. -/
def slabOf (w : Vec F S90x16 .f32) (f a : Fin 160 → Vec F S1x90x90 .f32) : FVec F S8x20x1440 .bf16 :=
  k0_pay1 (k0_pay360 (concatenate S160x90x16 0 (List.ofFn fun n => (⟨S1x90x16, shapeCast S1x90x16 (k0_pay3 w (f n) (a n)) shapeCasts_S90x16_S1x90x16⟩ : (s : Shape) × (s.Idx → F .f32)))
    (stacks_ok _)))

/-- The 160 windows of two 80-window blocks, one after the other. -/
def twoBlocks {α : Type} (p q : Fin 80 → α) (n : Fin 160) : α := if h : n.val < 80 then p ⟨n.val, h⟩ else q ⟨n.val - 80, by omega⟩

/-- Window `n` of a block. -/
def winOf (x : Vec F S80x90x90 .f32) (n : Fin 80) : Vec F S1x90x90 .f32 := VecWindow.window x ![n.val, 0, 0] S1x90x90.size (win_inb n.val n.isLt)

/-- The slab computed from the point's two feature blocks, its two adjacency blocks and the projection. -/
def slab (x0 x1 x2 x3 : Vec F S80x90x90 .f32) (x4 : Vec F S90x16 .f32) : FVec F S8x20x1440 .bf16 :=
  slabOf x4 (twoBlocks (winOf x0) (winOf x1)) (twoBlocks (winOf x2) (winOf x3))

/-- The seven input staging buffers of the first call, each whole at its contents. -/
abbrev ins0 (c : Dev nD) (arg2 arg3 arg4 arg5 : Memref sig .tc .vmem S80x90x90 .f32) (arg6 : Memref sig .tc .vmem S90x16 .f32)
    (arg7 : Memref sig .tc .vmem S1440x1920 .f32) (arg8 : Memref sig .tc .vmem S1x1920 .f32)
    (x0 x1 x2 x3 : Vec F S80x90x90 .f32) (x4 : Vec F S90x16 .f32) (x5 : Vec F S1440x1920 .f32) (x6 : Vec F S1x1920 .f32) : sProp 𝕄 :=
  iprop(owns (c : Thread nD τ) arg2 fullShare x0 ∗ owns (c : Thread nD τ) arg3 fullShare x1 ∗ owns (c : Thread nD τ) arg4 fullShare x2
    ∗ owns (c : Thread nD τ) arg5 fullShare x3 ∗ owns (c : Thread nD τ) arg6 fullShare x4 ∗ owns (c : Thread nD τ) arg7 fullShare x5
    ∗ owns (c : Thread nD τ) arg8 fullShare x6)

set_option maxHeartbeats 4000000 in
/-- The first call's body at a point of the first column block: the pieces it writes in its output block and in the carried
    buffer, found by running it. -/
noncomputable def firstRun (c : Dev nD) (i : grid0.Coords) (hc : k0_cond1 i = 1#1) (arg2 : Memref sig .tc .vmem S80x90x90 .f32) (harg2 : arg2.IsWhole) (arg3 : Memref sig .tc .vmem S80x90x90 .f32) (harg3 : arg3.IsWhole)
    (arg4 : Memref sig .tc .vmem S80x90x90 .f32) (harg4 : arg4.IsWhole) (arg5 : Memref sig .tc .vmem S80x90x90 .f32) (harg5 : arg5.IsWhole)
    (arg6 : Memref sig .tc .vmem S90x16 .f32) (harg6 : arg6.IsWhole) (arg7 : Memref sig .tc .vmem S1440x1920 .f32) (harg7 : arg7.IsWhole)
    (arg8 : Memref sig .tc .vmem S1x1920 .f32) (harg8 : arg8.IsWhole) (arg9 : Memref sig .tc .vmem S20x8x1920 .bf16) (harg9 : arg9.IsWhole)
    (arg10 : Memref sig .tc .vmem S32x20x1440 .bf16) (harg10 : arg10.IsWhole)
    (x0 x1 x2 x3 : Vec F S80x90x90 .f32) (x4 : Vec F S90x16 .f32) (x5 : Vec F S1440x1920 .f32) (x6 : Vec F S1x1920 .f32) (s : Vec F S32x20x1440 .bf16) :
    { L : List (View.Piece (Elt F) S20x8x1920 .bf16) × List (View.Piece (Elt F) S32x20x1440 .bf16) //
      ∀ (E : Set ℕ) (K : PUnit → sProp 𝕄),
        iprop(ins0 c arg2 arg3 arg4 arg5 arg6 arg7 arg8 x0 x1 x2 x3 x4 x5 x6 ∗ (∃ d, owns (c : Thread nD τ) arg9 fullShare d) ∗ owns (c : Thread nD τ) arg10 fullShare s
            ∗ (iprop(ins0 c arg2 arg3 arg4 arg5 arg6 arg7 arg8 x0 x1 x2 x3 x4 x5 x6 ∗ (∃ f, arg9.view.loc (c : Thread nD τ) ↦[arg9.view.set]{fullShare} arg9.view.writes (Elt F) f L.1)
                ∗ arg10.view.loc (c : Thread nD τ) ↦[arg10.view.set]{fullShare} arg10.view.writes (Elt F) (harg10.unread s) L.2) -∗ K ⟨⟩))
          ⊢ wp frame (wpE (defs₀ (F := F)) Variants.none c none) E (cc0__gcn_proj_kernel i arg2 harg2 arg3 harg3 arg4 harg4 arg5 harg5 arg6 harg6 arg7 harg7 arg8 harg8 arg9 harg9 arg10 harg10) K } := by
  refine ⟨⟨?_, ?_⟩, fun E K => ?run⟩
  case run =>
    simp only [cc0__gcn_proj_kernel_eq_skeleton]; unfold cc0__gcn_proj_kernel_skel
    unfold ins0 owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩⟩, ⟨%d7, %f7, -, H7⟩, ⟨%fs0, %hfs, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg10.eq_unread hfs
    sl_exec_parts
    sl_step
    iapply Hk
    isplitl [H0 H1 H2 H3 H4 H5 H6]
    · isplitl [H0]; · iexists _; isplitr; · ipureintro; exact harg2.read_unread _
                      iexact H0
      isplitl [H1]; · iexists _; isplitr; · ipureintro; exact harg3.read_unread _
                      iexact H1
      isplitl [H2]; · iexists _; isplitr; · ipureintro; exact harg4.read_unread _
                      iexact H2
      isplitl [H3]; · iexists _; isplitr; · ipureintro; exact harg5.read_unread _
                      iexact H3
      isplitl [H4]; · iexists _; isplitr; · ipureintro; exact harg6.read_unread _
                      iexact H4
      isplitl [H5]; · iexists _; isplitr; · ipureintro; exact harg7.read_unread _
                      iexact H5
      iexists _; isplitr; · ipureintro; exact harg8.read_unread _
      iexact H6
    isplitl [H7]; · iexists _; iexact H7
    iexact HS0

/-- What a load of window `n` reads of a whole memref at contents `x`. -/
theorem readAt_win (m : Memref sig .tc .vmem S80x90x90 .f32) (hm : m.IsWhole) (x : Vec F S80x90x90 .f32) (n : Fin 80) :
    View.readAt (Elt F) m.view (Rect.unit (s := S80x90x90) ![n.val, 0, 0] S1x90x90.size (win_inb n.val n.isLt)).toLoadRect (hm.unread x) = winOf x n := by
  rw [View.readAt_unit m.view _ _ rfl (win_inb n.val n.isLt), hm.read_unread]; rfl

/-- The windows as the body loads them. -/
def loaded (m : Memref sig .tc .vmem S80x90x90 .f32) (hm : m.IsWhole) (x : Vec F S80x90x90 .f32) (n : Fin 80) : Vec F S1x90x90 .f32 :=
  View.readAt (Elt F) m.view (Rect.unit (s := S80x90x90) ![n.val, 0, 0] S1x90x90.size (win_inb n.val n.isLt)).toLoadRect (hm.unread x)

theorem loaded_eq (m : Memref sig .tc .vmem S80x90x90 .f32) (hm : m.IsWhole) (x : Vec F S80x90x90 .f32) : loaded m hm x = winOf x :=
  funext fun n => readAt_win m hm x n

set_option maxHeartbeats 4000000 in
set_option maxRecDepth 65536 in
/-- The piece the body stores in the carried buffer is the point's slab. -/
theorem firstRun_slab (c : Dev nD) (i : grid0.Coords) (hc : k0_cond1 i = 1#1) (arg2 : Memref sig .tc .vmem S80x90x90 .f32) (harg2 : arg2.IsWhole) (arg3 : Memref sig .tc .vmem S80x90x90 .f32) (harg3 : arg3.IsWhole)
    (arg4 : Memref sig .tc .vmem S80x90x90 .f32) (harg4 : arg4.IsWhole) (arg5 : Memref sig .tc .vmem S80x90x90 .f32) (harg5 : arg5.IsWhole)
    (arg6 : Memref sig .tc .vmem S90x16 .f32) (harg6 : arg6.IsWhole) (arg7 : Memref sig .tc .vmem S1440x1920 .f32) (harg7 : arg7.IsWhole)
    (arg8 : Memref sig .tc .vmem S1x1920 .f32) (harg8 : arg8.IsWhole) (arg9 : Memref sig .tc .vmem S20x8x1920 .bf16) (harg9 : arg9.IsWhole)
    (arg10 : Memref sig .tc .vmem S32x20x1440 .bf16) (harg10 : arg10.IsWhole)
    (x0 x1 x2 x3 : Vec F S80x90x90 .f32) (x4 : Vec F S90x16 .f32) (x5 : Vec F S1440x1920 .f32) (x6 : Vec F S1x1920 .f32) (s : Vec F S32x20x1440 .bf16) :
    (firstRun c i hc arg2 harg2 arg3 harg3 arg4 harg4 arg5 harg5 arg6 harg6 arg7 harg7 arg8 harg8 arg9 harg9 arg10 harg10 x0 x1 x2 x3 x4 x5 x6 s).1.2
      = [⟨Rect.unit (s := S32x20x1440) (k0_off1 i) S8x20x1440.size (k0_off1_inb i hc), slab x0 x1 x2 x3 x4⟩] := by
  have e : (firstRun c i hc arg2 harg2 arg3 harg3 arg4 harg4 arg5 harg5 arg6 harg6 arg7 harg7 arg8 harg8 arg9 harg9 arg10 harg10 x0 x1 x2 x3 x4 x5 x6 s).1.2
      = [⟨Rect.unit (s := S32x20x1440) (k0_off1 i) S8x20x1440.size (k0_off1_inb i hc),
          slabOf (View.readAt (Elt F) arg6.view (Rect.unit (s := S90x16) ![0, 0] S90x16.size inb_S90x16_S90x16_0_0).toLoadRect (harg6.unread x4))
            (twoBlocks (loaded arg2 harg2 x0) (loaded arg3 harg3 x1)) (twoBlocks (loaded arg4 harg4 x2) (loaded arg5 harg5 x3))⟩] := by
    sl_kernel_rfl
  rw [e, loaded_eq, loaded_eq, loaded_eq, loaded_eq]
  have e6 : View.readAt (Elt F) arg6.view (Rect.unit (s := S90x16) ![0, 0] S90x16.size inb_S90x16_S90x16_0_0).toLoadRect (harg6.unread x4) = x4 :=
    (View.readAt_full arg6.view (harg6.unread x4) inb_S90x16_S90x16_0_0).trans (harg6.read_unread x4)
  rw [e6]; rfl

end Cert.KernelIdeal.Hand

end
-- ==== Proof.KernelIdeal.Step0.lean ====
/- The first call's kernel body at a grid point, as two rules: what it leaves in its output block and in the carried buffer at
   a point of the first column block (which computes the slab) and at a later point (which reads it). -/
module

public import proofs.«01_k».proof.Proof.KernelIdeal.Body0
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The rows `[8 n, 8 n + 8)` of the carried buffer. -/
def rows (s : Vec F S32x20x1440 .bf16) (n : ℕ) (hn : n < 4) : FVec F S8x20x1440 .bf16 :=
  VecWindow.window (α := Elt F .bf16) s ![8 * n, 0, 0] S8x20x1440.size (slab_inb n hn)

/-- The carried buffer with the slab `w` put over its rows `[8 n, 8 n + 8)`. -/
def putRows (s : Vec F S32x20x1440 .bf16) (n : ℕ) (w : FVec F S8x20x1440 .bf16) : Vec F S32x20x1440 .bf16 :=
  VecWindow.put (α := Elt F .bf16) s ![8 * n, 0, 0] S8x20x1440.size w

/-- A load of a whole memref of the whole shape reads its contents. -/
theorem readAt_whole {S : Shape} {e : EltTy} (m : Memref sig .tc .vmem S e) (hm : m.IsWhole) (x : Vec F S e) (off : Fin S.rank → ℕ) (inb : ∀ a, off a + S.size a ≤ S.size a) :
    View.readAt (Elt F) m.view (Rect.unit off S.size inb).toLoadRect (hm.unread x) = x :=
  (View.readAt_full m.view (hm.unread x) inb).trans (hm.read_unread x)

/-- A load of the point's rows just after they were stored reads what was stored. -/
theorem readCov_slab (i : grid0.Coords) (hc : k0_cond1 i = 1#1) (m : Memref sig .tc .vmem S32x20x1440 .bf16) (w : FVec F S8x20x1440 .bf16) :
    m.view.readCov [(⟨Rect.unit (s := S32x20x1440) (k0_off1 i) S8x20x1440.size (k0_off1_inb i hc), w⟩ : View.Piece (Elt F) S32x20x1440 .bf16)]
      (Rect.unit (s := S32x20x1440) (k0_off2 i) S8x20x1440.size (k0_off2_inb i)).toLoadRect = w := by
  have hoff : k0_off2 i = k0_off1 i := by rw [off1_eq, off2_eq]
  refine (View.readAt_unit m.view (m.view.writes (Elt F) m.view.junk [⟨Rect.unit (s := S32x20x1440) (k0_off1 i) S8x20x1440.size (k0_off1_inb i hc), w⟩])
    (k0_off2_inb i) hoff (k0_off1_inb i hc)).trans ?_
  funext y
  refine View.read_writes_cons_unit_of_mem (Val := Elt F) m.view m.view.junk (k0_off1_inb i hc) w [] ((Rect.unit (s := S32x20x1440) (k0_off1 i) S8x20x1440.size (k0_off1_inb i hc)).emb y) y rfl ?_
  intro a
  have e : ((Rect.unit (s := S32x20x1440) (k0_off1 i) S8x20x1440.size (k0_off1_inb i hc)).emb y a).val = k0_off1 i a + 1 * (y a).val := rfl
  rw [e, Nat.one_mul]

set_option maxHeartbeats 400000 in
set_option maxRecDepth 65536 in
/-- The piece the body stores in its output block is the projection of the slab just computed. -/
theorem firstRun_out (c : Dev nD) (i : grid0.Coords) (hc : k0_cond1 i = 1#1) (arg2 : Memref sig .tc .vmem S80x90x90 .f32) (harg2 : arg2.IsWhole) (arg3 : Memref sig .tc .vmem S80x90x90 .f32) (harg3 : arg3.IsWhole)
    (arg4 : Memref sig .tc .vmem S80x90x90 .f32) (harg4 : arg4.IsWhole) (arg5 : Memref sig .tc .vmem S80x90x90 .f32) (harg5 : arg5.IsWhole)
    (arg6 : Memref sig .tc .vmem S90x16 .f32) (harg6 : arg6.IsWhole) (arg7 : Memref sig .tc .vmem S1440x1920 .f32) (harg7 : arg7.IsWhole)
    (arg8 : Memref sig .tc .vmem S1x1920 .f32) (harg8 : arg8.IsWhole) (arg9 : Memref sig .tc .vmem S20x8x1920 .bf16) (harg9 : arg9.IsWhole)
    (arg10 : Memref sig .tc .vmem S32x20x1440 .bf16) (harg10 : arg10.IsWhole)
    (x0 x1 x2 x3 : Vec F S80x90x90 .f32) (x4 : Vec F S90x16 .f32) (x5 : Vec F S1440x1920 .f32) (x6 : Vec F S1x1920 .f32) (s : Vec F S32x20x1440 .bf16) :
    (firstRun c i hc arg2 harg2 arg3 harg3 arg4 harg4 arg5 harg5 arg6 harg6 arg7 harg7 arg8 harg8 arg9 harg9 arg10 harg10 x0 x1 x2 x3 x4 x5 x6 s).1.1
      = [⟨Rect.unit (s := S20x8x1920) ![0, 0, 0] S20x8x1920.size inb_S20x8x1920_S20x8x1920_0_0_0, k0_pay2 (slab x0 x1 x2 x3 x4) x5 x6⟩] := by
  have e : (firstRun c i hc arg2 harg2 arg3 harg3 arg4 harg4 arg5 harg5 arg6 harg6 arg7 harg7 arg8 harg8 arg9 harg9 arg10 harg10 x0 x1 x2 x3 x4 x5 x6 s).1.1
      = [⟨Rect.unit (s := S20x8x1920) ![0, 0, 0] S20x8x1920.size inb_S20x8x1920_S20x8x1920_0_0_0,
          k0_pay2 (arg10.view.readCov (firstRun c i hc arg2 harg2 arg3 harg3 arg4 harg4 arg5 harg5 arg6 harg6 arg7 harg7 arg8 harg8 arg9 harg9 arg10 harg10 x0 x1 x2 x3 x4 x5 x6 s).1.2 (Rect.unit (s := S32x20x1440) (k0_off2 i) S8x20x1440.size (k0_off2_inb i)).toLoadRect)
            (View.readAt (Elt F) arg7.view (Rect.unit (s := S1440x1920) ![0, 0] S1440x1920.size inb_S1440x1920_S1440x1920_0_0).toLoadRect (harg7.unread x5))
            (View.readAt (Elt F) arg8.view (Rect.unit (s := S1x1920) ![0, 0] S1x1920.size inb_S1x1920_S1x1920_0_0).toLoadRect (harg8.unread x6))⟩] := by
    sl_kernel_rfl
  rw [e, firstRun_slab, readAt_whole, readAt_whole]
  rw [readCov_slab i hc arg10 (slab x0 x1 x2 x3 x4)]

/-- The body at a point of the first column block: it puts the point's slab over its rows of the carried buffer and leaves the
    slab's projection in the output block. -/
theorem first_triple (c : Dev nD) (i : grid0.Coords) (hc : k0_cond1 i = 1#1) (arg2 : Memref sig .tc .vmem S80x90x90 .f32) (harg2 : arg2.IsWhole) (arg3 : Memref sig .tc .vmem S80x90x90 .f32) (harg3 : arg3.IsWhole)
    (arg4 : Memref sig .tc .vmem S80x90x90 .f32) (harg4 : arg4.IsWhole) (arg5 : Memref sig .tc .vmem S80x90x90 .f32) (harg5 : arg5.IsWhole)
    (arg6 : Memref sig .tc .vmem S90x16 .f32) (harg6 : arg6.IsWhole) (arg7 : Memref sig .tc .vmem S1440x1920 .f32) (harg7 : arg7.IsWhole)
    (arg8 : Memref sig .tc .vmem S1x1920 .f32) (harg8 : arg8.IsWhole) (arg9 : Memref sig .tc .vmem S20x8x1920 .bf16) (harg9 : arg9.IsWhole)
    (arg10 : Memref sig .tc .vmem S32x20x1440 .bf16) (harg10 : arg10.IsWhole)
    (x0 x1 x2 x3 : Vec F S80x90x90 .f32) (x4 : Vec F S90x16 .f32) (x5 : Vec F S1440x1920 .f32) (x6 : Vec F S1x1920 .f32) (s : Vec F S32x20x1440 .bf16)
    (E : Set ℕ) (K : PUnit → sProp 𝕄) :
    iprop(ins0 c arg2 arg3 arg4 arg5 arg6 arg7 arg8 x0 x1 x2 x3 x4 x5 x6 ∗ (∃ d, owns (c : Thread nD τ) arg9 fullShare d) ∗ owns (c : Thread nD τ) arg10 fullShare s
        ∗ (iprop(ins0 c arg2 arg3 arg4 arg5 arg6 arg7 arg8 x0 x1 x2 x3 x4 x5 x6 ∗ owns (c : Thread nD τ) arg9 fullShare (k0_pay2 (slab x0 x1 x2 x3 x4) x5 x6)
            ∗ owns (c : Thread nD τ) arg10 fullShare (putRows s (i 1).val (slab x0 x1 x2 x3 x4))) -∗ K ⟨⟩))
      ⊢ wp frame (wpE (defs₀ (F := F)) Variants.none c none) E (cc0__gcn_proj_kernel i arg2 harg2 arg3 harg3 arg4 harg4 arg5 harg5 arg6 harg6 arg7 harg7 arg8 harg8 arg9 harg9 arg10 harg10) K := by
  iintro ⟨H, Ho, Hs, Hk⟩
  iapply ((firstRun c i hc arg2 harg2 arg3 harg3 arg4 harg4 arg5 harg5 arg6 harg6 arg7 harg7 arg8 harg8 arg9 harg9 arg10 harg10 x0 x1 x2 x3 x4 x5 x6 s).2 E K)
  isplitl [H]; · iexact H
  isplitl [Ho]; · iexact Ho
  isplitl [Hs]; · iexact Hs
  iintro ⟨H, ⟨%f, Ho⟩, Hs⟩
  iapply Hk
  isplitl [H]; · iexact H
  isplitl [Ho]
  · unfold owns; iexists _
    isplitr [Ho]; rotate_left; · iexact Ho
    ipureintro
    rw [firstRun_out]
    exact View.read_writes_full arg9.view f inb_S20x8x1920_S20x8x1920_0_0_0 _ []
  unfold owns; iexists _
  isplitr [Hs]; rotate_left; · iexact Hs
  ipureintro
  rw [firstRun_slab, View.read_writes_cons_put arg10.view _ (k0_off1_inb i hc) _ [] (off1_eq i), View.writes_nil, harg10.read_unread]
  rfl

set_option maxHeartbeats 400000 in
/-- The body at a later column block: it reads its rows of the carried buffer, leaves their projection in the output block and
    keeps the buffer. -/
theorem later_triple (c : Dev nD) (i : grid0.Coords) (hc : ¬ k0_cond1 i = 1#1) (arg2 : Memref sig .tc .vmem S80x90x90 .f32) (harg2 : arg2.IsWhole) (arg3 : Memref sig .tc .vmem S80x90x90 .f32) (harg3 : arg3.IsWhole)
    (arg4 : Memref sig .tc .vmem S80x90x90 .f32) (harg4 : arg4.IsWhole) (arg5 : Memref sig .tc .vmem S80x90x90 .f32) (harg5 : arg5.IsWhole)
    (arg6 : Memref sig .tc .vmem S90x16 .f32) (harg6 : arg6.IsWhole) (arg7 : Memref sig .tc .vmem S1440x1920 .f32) (harg7 : arg7.IsWhole)
    (arg8 : Memref sig .tc .vmem S1x1920 .f32) (harg8 : arg8.IsWhole) (arg9 : Memref sig .tc .vmem S20x8x1920 .bf16) (harg9 : arg9.IsWhole)
    (arg10 : Memref sig .tc .vmem S32x20x1440 .bf16) (harg10 : arg10.IsWhole)
    (x0 x1 x2 x3 : Vec F S80x90x90 .f32) (x4 : Vec F S90x16 .f32) (x5 : Vec F S1440x1920 .f32) (x6 : Vec F S1x1920 .f32) (s : Vec F S32x20x1440 .bf16)
    (E : Set ℕ) (K : PUnit → sProp 𝕄) :
    iprop(ins0 c arg2 arg3 arg4 arg5 arg6 arg7 arg8 x0 x1 x2 x3 x4 x5 x6 ∗ (∃ d, owns (c : Thread nD τ) arg9 fullShare d) ∗ owns (c : Thread nD τ) arg10 fullShare s
        ∗ (iprop(ins0 c arg2 arg3 arg4 arg5 arg6 arg7 arg8 x0 x1 x2 x3 x4 x5 x6 ∗ owns (c : Thread nD τ) arg9 fullShare (k0_pay2 (rows s (i 1).val (i 1).isLt) x5 x6)
            ∗ owns (c : Thread nD τ) arg10 fullShare s) -∗ K ⟨⟩))
      ⊢ wp frame (wpE (defs₀ (F := F)) Variants.none c none) E (cc0__gcn_proj_kernel i arg2 harg2 arg3 harg3 arg4 harg4 arg5 harg5 arg6 harg6 arg7 harg7 arg8 harg8 arg9 harg9 arg10 harg10) K := by
  simp only [cc0__gcn_proj_kernel_eq_skeleton]; unfold cc0__gcn_proj_kernel_skel
  unfold ins0 owns
  iintro ⟨⟨H0, H1, H2, H3, H4, ⟨%f5, %hf5, H5⟩, ⟨%f6, %hf6, H6⟩⟩, ⟨%d7, %f7, -, H7⟩, ⟨%fs0, %hfs, HS0⟩, Hk⟩
  obtain rfl := harg7.eq_unread hf5; obtain rfl := harg8.eq_unread hf6; obtain rfl := harg10.eq_unread hfs
  sl_exec
  sl_step
  iapply Hk
  isplitl [H0 H1 H2 H3 H4 H5 H6]
  · isplitl [H0]; · iexact H0
    isplitl [H1]; · iexact H1
    isplitl [H2]; · iexact H2
    isplitl [H3]; · iexact H3
    isplitl [H4]; · iexact H4
    isplitl [H5]; · iexists _; isplitr; · ipureintro; exact harg7.read_unread _
                    iexact H5
    iexists _; isplitr; · ipureintro; exact harg8.read_unread _
    iexact H6
  isplitl [H7]
  · iexists _
    isplitr [H7]; rotate_left; · iexact H7
    ipureintro
    refine (View.read_writes_full arg9.view f7 inb_S20x8x1920_S20x8x1920_0_0_0 _ []).trans ?_
    rw [readAt_whole, readAt_whole, View.readAt_unit arg10.view _ _ (off2_eq i) (slab_inb (i 1).val (i 1).isLt), harg10.read_unread]
    rfl
  iexists _; isplitr; · ipureintro; exact harg10.read_unread _
  iexact HS0

end Cert.KernelIdeal.Hand

end
-- ==== Proof.KernelIdeal.Region0.lean ====
/- The first call as a pipeline region: its proof data, with the carried buffer described row block by row block, and its body
   obligation. -/
module

public import proofs.«01_k».proof.Proof.KernelIdeal.Step0
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.VecWindow

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The point's coordinate along the batch blocks. -/
theorem coord0_1 : ∀ t : Fin cfg0.N, (grid0.coords t 1).val = t.val % 4 := by decide +kernel

/-- The point's coordinate along the column blocks. -/
theorem coord0_0 : ∀ t : Fin cfg0.N, (grid0.coords t 0).val = t.val / 4 := by decide +kernel

/-- The body computes the slab at the points of the first column block only. -/
theorem cond0_iff : ∀ t : Fin cfg0.N, k0_cond1 (grid0.coords t) = 1#1 ↔ t.val < 4 := by decide +kernel

/-- The point of the first column block at batch block `k`. -/
def firstPt (k : Fin 4) : Fin cfg0.N := ⟨k.val, by show k.val < grid0.N; rw [N_0]; omega⟩

/-- The slab of batch block `k`: the two graph-convolution products of its two operand halves. -/
def slabAt (c : Dev nD) (k : Fin 4) : FVec F S8x20x1440 .bf16 :=
  slab (iblk0 V c 0 (firstPt k)) (iblk0 V c 1 (firstPt k)) (iblk0 V c 2 (firstPt k)) (iblk0 V c 3 (firstPt k)) (iblk0 V c 4 (firstPt k))

/-- Before point `n` the carried buffer holds the slabs of the batch blocks already computed. -/
def Filled (c : Dev nD) (n : ℕ) (s : Vec F S32x20x1440 .bf16) : Prop :=
  ∀ k : Fin 4, k.val < n → rows s k.val k.isLt = slabAt V c k

/-- Nothing is claimed before the first point. -/
theorem filled_zero (c : Dev nD) (s : Vec F S32x20x1440 .bf16) : Filled V c 0 s := fun k h => absurd h (Nat.not_lt_zero _)

/-- Putting the slab of batch block `k` over its rows fills one block more. -/
theorem filled_put (c : Dev nD) (k : Fin 4) (s : Vec F S32x20x1440 .bf16) (h : Filled V c k.val s) :
    Filled V c (k.val + 1) (putRows s k.val (slabAt V c k)) := by
  intro l hl
  by_cases e : l = k
  · subst e
    exact VecWindow.window_put_same (α := Elt F .bf16) s ![8 * l.val, 0, 0] S8x20x1440.size (slab_inb l.val l.isLt) _
  · have hne : l.val ≠ k.val := fun hv => e (Fin.ext hv)
    refine (VecWindow.window_put_of_disjoint (α := Elt F .bf16) s ![8 * k.val, 0, 0] S8x20x1440.size ![8 * l.val, 0, 0] S8x20x1440.size (slab_inb l.val l.isLt) _ 0 ?_).trans (h l (by omega))
    left
    show 8 * l.val + 8 ≤ 8 * k.val
    omega

/-- Once the first column block is done, nothing more is asked of the buffer. -/
theorem filled_later (c : Dev nD) (n : ℕ) (hn : 4 ≤ n) (s : Vec F S32x20x1440 .bf16) (h : Filled V c n s) : Filled V c (n + 1) s :=
  fun k _ => h k (by have := k.isLt; omega)

/-- The batch block of a point. -/
def batchOf (t : Fin cfg0.N) : Fin 4 := ⟨t.val % 4, Nat.mod_lt _ (by decide)⟩

/-- What the body leaves in its output block at point `t`: the projection of its batch block's slab on the point's columns. -/
def outAt0 (c : Dev nD) (t : Fin cfg0.N) : Vec F S20x8x1920 .bf16 :=
  k0_pay2 (slabAt V c (batchOf t)) (iblk0 V c 5 t) (iblk0 V c 6 t)

/-- The call's scoped buffers other than its staging buffers and its carried buffer, at some contents. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f))

/-- The carried buffer as a memref. -/
abbrev scM0_0 : Memref sig .tc .vmem S32x20x1440 .bf16 := Memref.whole cc0_scratch0

/-- The invariant before point `n`: the carried buffer holds the slabs computed so far. -/
def inv0 (c : Dev nD) (n : ℕ) : sProp 𝕄 :=
  iprop((iprop(∃ s, ⌜Filled V c n s⌝ ∗ owns (c : Thread nD τ) scM0_0 fullShare s) ∗ others0 c) ∗ ∃ r, prngReg c r)

/-- From the buffers at any contents, the invariant before the first point. -/
theorem inv0_start (c : Dev nD) : (Pipeline.ΦA spec0 c : sProp 𝕄) ⊢ inv0 V c 0 := by
  unfold Pipeline.ΦA inv0 others0; rw [scopedRest0_eq]; simp only [scM0_0, owns_whole]
  iintro ⟨⟨⟨%s, HS⟩, HR⟩, Hg⟩
  isplitl [HS HR]
  · isplitl [HS]
    · iexists s; isplitr; · ipureintro; exact filled_zero V c s
      iexact HS
    iexact HR
  iexact Hg

/-- The invariant gives the buffers back at some contents. -/
theorem inv0_end (c : Dev nD) (n : ℕ) : inv0 V c n ⊢ (Pipeline.ΦA spec0 c : sProp 𝕄) := by
  unfold Pipeline.ΦA inv0 others0; rw [scopedRest0_eq]; simp only [scM0_0, owns_whole]
  iintro ⟨⟨⟨%s, -, HS⟩, HR⟩, Hg⟩
  isplitl [HS HR]
  · isplitl [HS]
    · iexists s; iexact HS
    iexact HR
  iexact Hg

/-- The proof data of the first call: the arrays as the region finds them, the input blocks left in place, the output block at
    `outAt0`, the invariant `inv0`, nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => outAt0 V c t
  Φ t := inv0 V c t.val
  q w := Pipeline.shareOf spec0 w
  owed _ := 0

/-- The proof data's arrays are the region's entry contents. -/
theorem A_eq0 (c : Dev nD) (w : Fin cfg0.W) : (dat0 V c).A w = V c (Pipeline.arrRef spec0 w) := by
  dsimp only [dat0]

/-- The body leaves input window 0's block in place, and finds it there. -/
theorem after0_0 (c : Dev nD) (t : Fin cfg0.N) : (dat0 V c).after 0 t = iblk0 V c 0 t := by dsimp only [dat0]
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
/-- The body leaves input window 1's block in place, and finds it there. -/
theorem after0_1 (c : Dev nD) (t : Fin cfg0.N) : (dat0 V c).after 1 t = iblk0 V c 1 t := by dsimp only [dat0]
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
/-- The body leaves input window 2's block in place, and finds it there. -/
theorem after0_2 (c : Dev nD) (t : Fin cfg0.N) : (dat0 V c).after 2 t = iblk0 V c 2 t := by dsimp only [dat0]
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)
/-- The body leaves input window 3's block in place, and finds it there. -/
theorem after0_3 (c : Dev nD) (t : Fin cfg0.N) : (dat0 V c).after 3 t = iblk0 V c 3 t := by dsimp only [dat0]
theorem before0_3 (c : Dev nD) (t : Fin cfg0.N) (d) : (dat0 V c).before 3 t d = iblk0 V c 3 t :=
  ((dat0 V c).before_in_eq_fetched 3 rfl (fun _ => rfl) (fun _ _ _ => rfl) (fun t => by rw [after0_3]; unfold Dat.blockOf iblk0; rw [A_eq0]; try rfl) t d).trans
    (by unfold Dat.fetched Dat.blockOf iblk0; rw [A_eq0]; try rfl)
/-- The body leaves input window 4's block in place, and finds it there. -/
theorem after0_4 (c : Dev nD) (t : Fin cfg0.N) : (dat0 V c).after 4 t = iblk0 V c 4 t := by dsimp only [dat0]
theorem before0_4 (c : Dev nD) (t : Fin cfg0.N) (d) : (dat0 V c).before 4 t d = iblk0 V c 4 t :=
  ((dat0 V c).before_in_eq_fetched 4 rfl (fun _ => rfl) (fun _ _ _ => rfl) (fun t => by rw [after0_4]; unfold Dat.blockOf iblk0; rw [A_eq0]; try rfl) t d).trans
    (by unfold Dat.fetched Dat.blockOf iblk0; rw [A_eq0]; try rfl)
/-- The body leaves input window 5's block in place, and finds it there. -/
theorem after0_5 (c : Dev nD) (t : Fin cfg0.N) : (dat0 V c).after 5 t = iblk0 V c 5 t := by dsimp only [dat0]
theorem before0_5 (c : Dev nD) (t : Fin cfg0.N) (d) : (dat0 V c).before 5 t d = iblk0 V c 5 t :=
  ((dat0 V c).before_in_eq_fetched 5 rfl (fun _ => rfl) (fun _ _ _ => rfl) (fun t => by rw [after0_5]; unfold Dat.blockOf iblk0; rw [A_eq0]; try rfl) t d).trans
    (by unfold Dat.fetched Dat.blockOf iblk0; rw [A_eq0]; try rfl)
/-- The body leaves input window 6's block in place, and finds it there. -/
theorem after0_6 (c : Dev nD) (t : Fin cfg0.N) : (dat0 V c).after 6 t = iblk0 V c 6 t := by dsimp only [dat0]
theorem before0_6 (c : Dev nD) (t : Fin cfg0.N) (d) : (dat0 V c).before 6 t d = iblk0 V c 6 t :=
  ((dat0 V c).before_in_eq_fetched 6 rfl (fun _ => rfl) (fun _ _ _ => rfl) (fun t => by rw [after0_6]; unfold Dat.blockOf iblk0; rw [A_eq0]; try rfl) t d).trans
    (by unfold Dat.fetched Dat.blockOf iblk0; rw [A_eq0]; try rfl)
/-- The body leaves the output block at `outAt0`. -/
theorem after0_7 (c : Dev nD) (t : Fin cfg0.N) : (dat0 V c).after 7 t = outAt0 V c t := by dsimp only [dat0]

abbrev ms0_0 (t : Fin cfg0.N) : Memref sig .tc .vmem S80x90x90 .f32 := win0_0.stage (cfg0.slots t 0)
abbrev ms0_1 (t : Fin cfg0.N) : Memref sig .tc .vmem S80x90x90 .f32 := win0_1.stage (cfg0.slots t 1)
abbrev ms0_2 (t : Fin cfg0.N) : Memref sig .tc .vmem S80x90x90 .f32 := win0_2.stage (cfg0.slots t 2)
abbrev ms0_3 (t : Fin cfg0.N) : Memref sig .tc .vmem S80x90x90 .f32 := win0_3.stage (cfg0.slots t 3)
abbrev ms0_4 (t : Fin cfg0.N) : Memref sig .tc .vmem S90x16 .f32 := win0_4.stage (cfg0.slots t 4)
abbrev ms0_5 (t : Fin cfg0.N) : Memref sig .tc .vmem S1440x1920 .f32 := win0_5.stage (cfg0.slots t 5)
abbrev ms0_6 (t : Fin cfg0.N) : Memref sig .tc .vmem S1x1920 .f32 := win0_6.stage (cfg0.slots t 6)
abbrev ms0_7 (t : Fin cfg0.N) : Memref sig .tc .vmem S20x8x1920 .bf16 := win0_7.stage (cfg0.slots t 7)

/-- What the body is called with at point `t`, window by window. -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d)))

/-- What the body returns at point `t`, window by window. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t)
    ∗ owns (c : Thread nD τ) (ms0_5 t) fullShare ((dat0 V c).after 5 t)
    ∗ owns (c : Thread nD τ) (ms0_6 t) fullShare ((dat0 V c).after 6 t)
    ∗ owns (c : Thread nD τ) (ms0_7 t) fullShare ((dat0 V c).after 7 t))

/-- The body at a point, by the rule of its case. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = inv0 V c (t.val + 1) from rfl,
    show (dat0 V c).owesAt () t.succ = (dat0 V c).owesAt () t.castSucc from rfl,
    after0_0, after0_1, after0_2, after0_3, after0_4, after0_5, after0_6, after0_7]
  rw [show (dat0 V c).Φ t.castSucc = inv0 V c t.val from rfl]
  unfold inv0
  iintro ⟨⟨⟨⟨%s, %hs, HS⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  by_cases h : t.val < 4
  · have hb : batchOf t = ⟨t.val, h⟩ := Fin.ext (Nat.mod_eq_of_lt h)
    have hp : firstPt ⟨t.val, h⟩ = t := Fin.ext rfl
    have hi : (grid0.coords t 1).val = t.val := (coord0_1 t).trans (Nat.mod_eq_of_lt h)
    have hsl : slab (iblk0 V c 0 t) (iblk0 V c 1 t) (iblk0 V c 2 t) (iblk0 V c 3 t) (iblk0 V c 4 t) = slabAt V c ⟨t.val, h⟩ := by
      unfold slabAt; rw [hp]
    iapply (first_triple c (grid0.coords t) ((cond0_iff t).2 h) _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) s Set.univ _)
    isplitl [H0 H1 H2 H3 H4 H5 H6]
    · isplitl [H0]; · iexact H0
      isplitl [H1]; · iexact H1
      isplitl [H2]; · iexact H2
      isplitl [H3]; · iexact H3
      isplitl [H4]; · iexact H4
      isplitl [H5]; · iexact H5
      iexact H6
    isplitl [H7]; · iexists _; iexact H7
    isplitl [HS]; · iexact HS
    iintro ⟨⟨H0, H1, H2, H3, H4, H5, H6⟩, H7, HS⟩
    isplitl [HS HR Hg]
    · isplitl [HS HR]
      · isplitl [HS]
        · iexists _
          isplitr [HS]; rotate_left; · iexact HS
          ipureintro
          rw [hi, hsl]; exact filled_put V c ⟨t.val, h⟩ s hs
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    unfold outAt0; rw [hb, ← hsl]; iexact H7
  · have hr : rows s (grid0.coords t 1).val (grid0.coords t 1).isLt = slabAt V c (batchOf t) := by
      rw [← hs (batchOf t) (by show t.val % 4 < t.val; omega)]
      have key : ∀ (a b : ℕ) (ha : a < 4) (hb : b < 4), a = b → rows s a ha = rows s b hb := fun a b ha hb e => by subst e; rfl
      exact key _ _ _ _ (coord0_1 t)
    iapply (later_triple c (grid0.coords t) (fun e => h ((cond0_iff t).1 e)) _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) s Set.univ _)
    isplitl [H0 H1 H2 H3 H4 H5 H6]
    · isplitl [H0]; · iexact H0
      isplitl [H1]; · iexact H1
      isplitl [H2]; · iexact H2
      isplitl [H3]; · iexact H3
      isplitl [H4]; · iexact H4
      isplitl [H5]; · iexact H5
      iexact H6
    isplitl [H7]; · iexists _; iexact H7
    isplitl [HS]; · iexact HS
    iintro ⟨⟨H0, H1, H2, H3, H4, H5, H6⟩, H7, HS⟩
    isplitl [HS HR Hg]
    · isplitl [HS HR]
      · isplitl [HS]
        · iexists s; isplitr; · ipureintro; exact filled_later V c t.val (Nat.le_of_not_lt h) s hs
          iexact HS
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    unfold outAt0; rw [← hr]; iexact H7

/-- The body table's row at point `t`'s slots is the body as `bodyAt0` spells it. -/
theorem defs₀_row0 (t : Fin cfg0.N) : defs₀ (F := F) .tc cfg0.body (cfg0.bodyArgs t (cfg0.slots t)) = bodyAt0 t := by
  unfold defs₀; rw [Defs.onTc_tc]

/-- The first call's body obligation, at every point. -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Cert.KernelIdeal.Hand

end
-- ==== Proof.KernelIdeal.Body1.lean ====
/- The second call's kernel body, run on whole staging buffers: one step of the recurrence at every grid point, from the zero
   state at the first one, and the decoder at the last one. -/
module

public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.VecWindow
public import Idealize.ShloMosaic.Lib.WholeRead
public import Idealize.ShloMosaic.Lib.WritesUnit
public import Idealize.ShloMosaic.Lib.ValueIdxCore
public import proofs.«01_k».proof.Proof.KernelIdeal.Step0

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The recurrent matrix's first 2944 columns and its last 2816. -/
def colsLo (x1 : Vec F S1440x5760 .f32) : Vec F S1440x2944 .f32 :=
  VecWindow.window (α := Elt F .f32) x1 ![0, 0] S1440x2944.size inb_S1440x5760_S1440x2944_0_0
def colsHi (x1 : Vec F S1440x5760 .f32) : Vec F S1440x2816 .f32 :=
  VecWindow.window (α := Elt F .f32) x1 ![0, 2944] S1440x2816.size inb_S1440x5760_S1440x2816_0_2944

/-- The hidden state one step on, as the decoder reads it and as the body stores it, and the cell state one step on. -/
def hidOut (x0 : Vec F S1x32x5760 .bf16) (x1 : Vec F S1440x5760 .f32) (h cs : Vec F S32x1440 .f32) : FVec F S32x1440 .f32 :=
  k1_pay80 x0 h (colsLo x1) (colsHi x1) cs
def hidNext (x0 : Vec F S1x32x5760 .bf16) (x1 : Vec F S1440x5760 .f32) (h cs : Vec F S32x1440 .f32) : Vec F S32x1440 .f32 :=
  k1_pay82 x0 h (colsLo x1) (colsHi x1) cs
def cellNext (x0 : Vec F S1x32x5760 .bf16) (x1 : Vec F S1440x5760 .f32) (h cs : Vec F S32x1440 .f32) : Vec F S32x1440 .f32 :=
  k1_pay81 x0 h (colsLo x1) (colsHi x1) cs

theorem readAt_lo (m : Memref sig .tc .vmem S1440x5760 .f32) (hm : m.IsWhole) (x : Vec F S1440x5760 .f32) :
    View.readAt (Elt F) m.view (Rect.unit (s := S1440x5760) ![0, 0] S1440x2944.size inb_S1440x5760_S1440x2944_0_0).toLoadRect (hm.unread x) = colsLo x := by
  rw [View.readAt_unit m.view _ _ rfl inb_S1440x5760_S1440x2944_0_0, hm.read_unread]; rfl
theorem readAt_hi (m : Memref sig .tc .vmem S1440x5760 .f32) (hm : m.IsWhole) (x : Vec F S1440x5760 .f32) :
    View.readAt (Elt F) m.view (Rect.unit (s := S1440x5760) ![0, 2944] S1440x2816.size inb_S1440x5760_S1440x2816_0_2944).toLoadRect (hm.unread x) = colsHi x := by
  rw [View.readAt_unit m.view _ _ rfl inb_S1440x5760_S1440x2816_0_2944, hm.read_unread]; rfl

set_option maxHeartbeats 1000000 in
/-- A grid point that is neither the first nor the last: one step of the recurrence. -/
theorem mid_triple (c : Dev nD) (i : grid1.Coords) (h1 : ¬ Scalar.cmpi .ne (Scalar.extui (Scalar.cmpi .eq (BitVec.ofNat 32 (i 0).val) 0#32) : BitVec 32) 0#32 = 1#1) (h2 : ¬ k1_cond2 i = 1#1) (arg1 : Memref sig .tc .vmem S1x32x5760 .bf16) (harg1 : arg1.IsWhole) (arg2 : Memref sig .tc .vmem S1440x5760 .f32) (harg2 : arg2.IsWhole)
    (arg3 : Memref sig .tc .vmem S90x90 .f32) (harg3 : arg3.IsWhole) (arg4 : Memref sig .tc .vmem S16x32 .f32) (harg4 : arg4.IsWhole)
    (arg5 : Memref sig .tc .vmem S32x90x90 .f32) (harg5 : arg5.IsWhole) (arg6 : Memref sig .tc .vmem S32x1440 .f32) (harg6 : arg6.IsWhole)
    (arg7 : Memref sig .tc .vmem S32x1440 .f32) (harg7 : arg7.IsWhole)
    (x0 : Vec F S1x32x5760 .bf16) (x1 : Vec F S1440x5760 .f32) (h cs : Vec F S32x1440 .f32) (E : Set ℕ) (K : PUnit → sProp 𝕄) :
    iprop(owns (c : Thread nD τ) arg1 fullShare x0 ∗ owns (c : Thread nD τ) arg2 fullShare x1 ∗ owns (c : Thread nD τ) arg6 fullShare h ∗ owns (c : Thread nD τ) arg7 fullShare cs
        ∗ (iprop(owns (c : Thread nD τ) arg1 fullShare x0 ∗ owns (c : Thread nD τ) arg2 fullShare x1 ∗ owns (c : Thread nD τ) arg6 fullShare (hidNext x0 x1 h cs)
            ∗ owns (c : Thread nD τ) arg7 fullShare (cellNext x0 x1 h cs)) -∗ K ⟨⟩))
      ⊢ wp frame (wpE (defs₀ (F := F)) Variants.none c none) E (cc1__lstm_kernel i arg1 harg1 arg2 harg2 arg3 harg3 arg4 harg4 arg5 harg5 arg6 harg6 arg7 harg7) K := by
  simp only [cc1__lstm_kernel_eq_skeleton]; unfold cc1__lstm_kernel_skel
  unfold owns
  iintro ⟨⟨%f0, %hf0, H0⟩, ⟨%f1, %hf1, H1⟩, ⟨%fh, %hfh, HS0⟩, ⟨%fc, %hfc, HS1⟩, Hk⟩
  obtain rfl := harg1.eq_unread hf0; obtain rfl := harg2.eq_unread hf1; obtain rfl := harg6.eq_unread hfh; obtain rfl := harg7.eq_unread hfc
  sl_exec
  sl_step
  iapply Hk
  isplitl [H0]; · iexists _; isplitr; · ipureintro; exact harg1.read_unread _
                  iexact H0
  isplitl [H1]; · iexists _; isplitr; · ipureintro; exact harg2.read_unread _
                  iexact H1
  isplitl [HS0]
  · iexists _
    isplitr [HS0]; rotate_left; · iexact HS0
    ipureintro
    refine (View.read_writes_full arg6.view _ inb_S32x1440_S32x1440_0_0 _ []).trans ?_
    rw [readAt_whole, readAt_whole, readAt_whole, readAt_lo, readAt_hi]
    rfl
  iexists _
  isplitr [HS1]; rotate_left; · iexact HS1
  ipureintro
  refine (View.read_writes_full arg7.view _ inb_S32x1440_S32x1440_0_0 _ []).trans ?_
  rw [readAt_whole, readAt_whole, readAt_whole, readAt_lo, readAt_hi]
  rfl

set_option maxHeartbeats 1000000 in
/-- The first grid point: one step of the recurrence from the zero state, whatever the carried buffers hold. -/
theorem init_triple (c : Dev nD) (i : grid1.Coords) (h1 : Scalar.cmpi .ne (Scalar.extui (Scalar.cmpi .eq (BitVec.ofNat 32 (i 0).val) 0#32) : BitVec 32) 0#32 = 1#1) (h2 : ¬ k1_cond2 i = 1#1) (arg1 : Memref sig .tc .vmem S1x32x5760 .bf16) (harg1 : arg1.IsWhole) (arg2 : Memref sig .tc .vmem S1440x5760 .f32) (harg2 : arg2.IsWhole)
    (arg3 : Memref sig .tc .vmem S90x90 .f32) (harg3 : arg3.IsWhole) (arg4 : Memref sig .tc .vmem S16x32 .f32) (harg4 : arg4.IsWhole)
    (arg5 : Memref sig .tc .vmem S32x90x90 .f32) (harg5 : arg5.IsWhole) (arg6 : Memref sig .tc .vmem S32x1440 .f32) (harg6 : arg6.IsWhole)
    (arg7 : Memref sig .tc .vmem S32x1440 .f32) (harg7 : arg7.IsWhole)
    (x0 : Vec F S1x32x5760 .bf16) (x1 : Vec F S1440x5760 .f32) (E : Set ℕ) (K : PUnit → sProp 𝕄) :
    iprop(owns (c : Thread nD τ) arg1 fullShare x0 ∗ owns (c : Thread nD τ) arg2 fullShare x1 ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg6 fullShare (hidNext x0 x1 k1_pay75 k1_pay76)
            ∗ owns (c : Thread nD τ) arg7 fullShare (cellNext x0 x1 k1_pay75 k1_pay76)) -∗ K ⟨⟩))
      ⊢ wp frame (wpE (defs₀ (F := F)) Variants.none c none) E (cc1__lstm_kernel i arg1 harg1 arg2 harg2 arg3 harg3 arg4 harg4 arg5 harg5 arg6 harg6 arg7 harg7) K := by
  simp only [cc1__lstm_kernel_eq_skeleton]; unfold cc1__lstm_kernel_skel
  unfold owns
  iintro ⟨⟨%f0, %hf0, H0⟩, ⟨%f1, %hf1, H1⟩, ⟨%dh, %fh, %hfh, HS0⟩, ⟨%dc, %fc, %hfc, HS1⟩, Hk⟩
  obtain rfl := harg1.eq_unread hf0; obtain rfl := harg2.eq_unread hf1
  sl_exec
  sl_step
  iapply Hk
  isplitl [H0]; · iexists _; isplitr; · ipureintro; exact harg1.read_unread _
                  iexact H0
  isplitl [H1]; · iexists _; isplitr; · ipureintro; exact harg2.read_unread _
                  iexact H1
  isplitl [HS0]
  · iexists _
    isplitr [HS0]; rotate_left; · iexact HS0
    ipureintro
    refine (View.read_writes_full arg6.view _ inb_S32x1440_S32x1440_0_0 _ _).trans ?_
    have e6 : init_triple.sl.v6 c arg6 = k1_pay75 (F := F) := View.readCov_full arg6.view inb_S32x1440_S32x1440_0_0 inb_S32x1440_S32x1440_0_0 _ []
    have e7 : init_triple.sl.v25 c arg7 = k1_pay76 (F := F) := View.readCov_full arg7.view inb_S32x1440_S32x1440_0_0 inb_S32x1440_S32x1440_0_0 _ []
    rw [readAt_whole, readAt_lo, readAt_hi, e6, e7]
    rfl
  iexists _
  isplitr [HS1]; rotate_left; · iexact HS1
  ipureintro
  refine (View.read_writes_full arg7.view _ inb_S32x1440_S32x1440_0_0 _ _).trans ?_
  have e6 : init_triple.sl.v6 c arg6 = k1_pay75 (F := F) := View.readCov_full arg6.view inb_S32x1440_S32x1440_0_0 inb_S32x1440_S32x1440_0_0 _ []
  have e7 : init_triple.sl.v25 c arg7 = k1_pay76 (F := F) := View.readCov_full arg7.view inb_S32x1440_S32x1440_0_0 inb_S32x1440_S32x1440_0_0 _ []
  rw [readAt_whole, readAt_lo, readAt_hi, e6, e7]
  rfl

/-! ## The decoder -/

/-- Batch row `k` of the reshaped hidden state, its 16 columns of the stacked projection, its 32 columns of the decoder's
    hidden layer lie inside. -/
theorem slice_batch (k : Fin 32) : S32x90x16.Slices ![k.val, 0, 0] S1x90x16 := by
  revert k; decide
theorem slice_cols (k : Fin 32) : S90x1024.Slices ![0, 32 * k.val] S90x32 := by
  revert k; decide
/-- The 32 projections side by side make up 1024 columns. -/
theorem side_by_side (f : Fin 32 → FVec F S90x32 .f32) :
    Shape.Concatenates ((List.ofFn fun n => (⟨S90x32, f n⟩ : (s : Shape) × (s.Idx → F .f32))).map (·.1)) S90x1024 1 := by
  rw [List.map_ofFn]; exact (by decide : Shape.Concatenates (List.ofFn fun _ : Fin 32 => S90x32) S90x1024 1)

/-- The projection of batch row `k`'s hidden state. -/
def proj1 (hid : FVec F S32x1440 .f32) (w : Vec F S16x32 .f32) (k : Fin 32) : FVec F S90x32 .f32 :=
  matmul dot_S90x16_S16x32_S90x32_1_0_0_1_n_n none
    (shapeCast S90x16 (extractStridedSlice S1x90x16 ![k.val, 0, 0] (shapeCast S32x90x16 hid shapeCasts_S32x1440_S32x90x16) (slice_batch k)) shapeCasts_S1x90x16_S90x16)
    w (constant S90x32 .f32 0x00000000#32)

/-- The decoder's hidden layer of all 32 batch rows, side by side. -/
def layer1 (hid : FVec F S32x1440 .f32) (w : Vec F S16x32 .f32) (adj : Vec F S90x90 .f32) : FVec F S90x1024 .f32 :=
  maximumf (matmul dot_S90x90_S90x1024_S90x1024_1_0_0_1_n_n none adj
      (concatenate S90x1024 1 (List.ofFn fun k => (⟨S90x32, proj1 hid w k⟩ : (s : Shape) × (s.Idx → F .f32))) (side_by_side _))
      (constant S90x1024 .f32 0x00000000#32))
    (broadcast S90x1024 (Scalar.ofBits .f32 0x00000000#32 : F .f32))

/-- Batch row `k` of the decoded adjacency: `relu (u uᵀ)` with ones on the diagonal. -/
def decRow (u : FVec F S90x1024 .f32) (k : Fin 32) : FVec F S1x90x90 .f32 :=
  shapeCast S1x90x90 (select (cmpi .eq (iota .tc S90x90 32 [0] iota_S90x90_d0_w32) (iota .tc S90x90 32 [1] iota_S90x90_d1_w32))
    (broadcast S90x90 (Scalar.ofBits .f32 0x3F800000#32 : F .f32))
    (maximumf (matmul dot_S90x32_S90x32_S90x90_1_1_0_0_n_n none (extractStridedSlice S90x32 ![0, 32 * k.val] u (slice_cols k))
        (extractStridedSlice S90x32 ![0, 32 * k.val] u (slice_cols k)) (constant S90x90 .f32 0x00000000#32))
      (broadcast S90x90 (Scalar.ofBits .f32 0x00000000#32 : F .f32)))) shapeCasts_S90x90_S1x90x90

/-- The decoded adjacency of all 32 batch rows. -/
def decoded (u : FVec F S90x1024 .f32) : Vec F S32x90x90 .f32 := fun y => decRow u (y 0) (ValueIdx.ix3 (0 : Fin 1) (y 1) (y 2))

theorem row_inb (n : Fin 32) : ∀ a, (![n.val, 0, 0] : Fin 3 → ℕ) a + S1x90x90.size a ≤ S32x90x90.size a := by
  intro a; fin_cases a
  · show n.val + 1 ≤ 32; omega
  · show 0 + 90 ≤ 90; omega
  · show 0 + 90 ≤ 90; omega

set_option maxHeartbeats 4000000 in
/-- The last grid point: the pieces it writes in its output block and in the carried state, found by running it. -/
noncomputable def lastRun (c : Dev nD) (i : grid1.Coords) (h1 : ¬ Scalar.cmpi .ne (Scalar.extui (Scalar.cmpi .eq (BitVec.ofNat 32 (i 0).val) 0#32) : BitVec 32) 0#32 = 1#1) (h2 : k1_cond2 i = 1#1) (arg1 : Memref sig .tc .vmem S1x32x5760 .bf16) (harg1 : arg1.IsWhole) (arg2 : Memref sig .tc .vmem S1440x5760 .f32) (harg2 : arg2.IsWhole)
    (arg3 : Memref sig .tc .vmem S90x90 .f32) (harg3 : arg3.IsWhole) (arg4 : Memref sig .tc .vmem S16x32 .f32) (harg4 : arg4.IsWhole)
    (arg5 : Memref sig .tc .vmem S32x90x90 .f32) (harg5 : arg5.IsWhole) (arg6 : Memref sig .tc .vmem S32x1440 .f32) (harg6 : arg6.IsWhole)
    (arg7 : Memref sig .tc .vmem S32x1440 .f32) (harg7 : arg7.IsWhole)
    (x0 : Vec F S1x32x5760 .bf16) (x1 : Vec F S1440x5760 .f32) (x2 : Vec F S90x90 .f32) (x3 : Vec F S16x32 .f32) (h cs : Vec F S32x1440 .f32) :
    { L : List (View.Piece (Elt F) S32x90x90 .f32) × List (View.Piece (Elt F) S32x1440 .f32) × List (View.Piece (Elt F) S32x1440 .f32) //
      ∀ (E : Set ℕ) (K : PUnit → sProp 𝕄),
        iprop(iprop(owns (c : Thread nD τ) arg1 fullShare x0 ∗ owns (c : Thread nD τ) arg2 fullShare x1 ∗ owns (c : Thread nD τ) arg3 fullShare x2 ∗ owns (c : Thread nD τ) arg4 fullShare x3) ∗ (∃ d, owns (c : Thread nD τ) arg5 fullShare d) ∗ owns (c : Thread nD τ) arg6 fullShare h ∗ owns (c : Thread nD τ) arg7 fullShare cs
            ∗ (iprop(iprop(owns (c : Thread nD τ) arg1 fullShare x0 ∗ owns (c : Thread nD τ) arg2 fullShare x1 ∗ owns (c : Thread nD τ) arg3 fullShare x2 ∗ owns (c : Thread nD τ) arg4 fullShare x3) ∗ (∃ f, arg5.view.loc (c : Thread nD τ) ↦[arg5.view.set]{fullShare} arg5.view.writes (Elt F) f L.1)
                ∗ (arg6.view.loc (c : Thread nD τ) ↦[arg6.view.set]{fullShare} arg6.view.writes (Elt F) (harg6.unread h) L.2.1)
                ∗ arg7.view.loc (c : Thread nD τ) ↦[arg7.view.set]{fullShare} arg7.view.writes (Elt F) (harg7.unread cs) L.2.2) -∗ K ⟨⟩))
          ⊢ wp frame (wpE (defs₀ (F := F)) Variants.none c none) E (cc1__lstm_kernel i arg1 harg1 arg2 harg2 arg3 harg3 arg4 harg4 arg5 harg5 arg6 harg6 arg7 harg7) K } := by
  refine ⟨⟨?_, ?_, ?_⟩, fun E K => ?run⟩
  case run =>
    simp only [cc1__lstm_kernel_eq_skeleton]; unfold cc1__lstm_kernel_skel
    unfold owns
    iintro ⟨⟨⟨%f0, %hf0, H0⟩, ⟨%f1, %hf1, H1⟩, ⟨%f2, %hf2, H2⟩, ⟨%f3, %hf3, H3⟩⟩, ⟨%d4, %f4, -, H4⟩, ⟨%fh, %hfh, HS0⟩, ⟨%fc, %hfc, HS1⟩, Hk⟩
    obtain rfl := harg1.eq_unread hf0; obtain rfl := harg2.eq_unread hf1; obtain rfl := harg3.eq_unread hf2; obtain rfl := harg4.eq_unread hf3
    obtain rfl := harg6.eq_unread hfh; obtain rfl := harg7.eq_unread hfc
    sl_exec_parts
    sl_step
    iapply Hk
    isplitl [H0 H1 H2 H3]
    · isplitl [H0]; · iexists _; isplitr; · ipureintro; exact harg1.read_unread _
                      iexact H0
      isplitl [H1]; · iexists _; isplitr; · ipureintro; exact harg2.read_unread _
                      iexact H1
      isplitl [H2]; · iexists _; isplitr; · ipureintro; exact harg3.read_unread _
                      iexact H2
      iexists _; isplitr; · ipureintro; exact harg4.read_unread _
      iexact H3
    isplitl [H4]; · iexists _; iexact H4
    isplitl [HS0]; · iexact HS0
    iexact HS1

/-- The pieces of the last point's output block are the decoded rows, one per batch row. -/
def rowPieces (u : FVec F S90x1024 .f32) : List (View.Piece (Elt F) S32x90x90 .f32) :=
  View.tilePieces (s := S32x90x90) (Val := Elt F) (e := .f32) (NT := 32) S1x90x90.size (fun n => ![n.val, 0, 0]) row_inb (fun n => decRow u n) 32 le_rfl

set_option maxHeartbeats 1000000 in
set_option maxRecDepth 65536 in
theorem lastRun_out (c : Dev nD) (i : grid1.Coords) (h1 : ¬ Scalar.cmpi .ne (Scalar.extui (Scalar.cmpi .eq (BitVec.ofNat 32 (i 0).val) 0#32) : BitVec 32) 0#32 = 1#1) (h2 : k1_cond2 i = 1#1) (arg1 : Memref sig .tc .vmem S1x32x5760 .bf16) (harg1 : arg1.IsWhole) (arg2 : Memref sig .tc .vmem S1440x5760 .f32) (harg2 : arg2.IsWhole)
    (arg3 : Memref sig .tc .vmem S90x90 .f32) (harg3 : arg3.IsWhole) (arg4 : Memref sig .tc .vmem S16x32 .f32) (harg4 : arg4.IsWhole)
    (arg5 : Memref sig .tc .vmem S32x90x90 .f32) (harg5 : arg5.IsWhole) (arg6 : Memref sig .tc .vmem S32x1440 .f32) (harg6 : arg6.IsWhole)
    (arg7 : Memref sig .tc .vmem S32x1440 .f32) (harg7 : arg7.IsWhole)
    (x0 : Vec F S1x32x5760 .bf16) (x1 : Vec F S1440x5760 .f32) (x2 : Vec F S90x90 .f32) (x3 : Vec F S16x32 .f32) (h cs : Vec F S32x1440 .f32) :
    (lastRun c i h1 h2 arg1 harg1 arg2 harg2 arg3 harg3 arg4 harg4 arg5 harg5 arg6 harg6 arg7 harg7 x0 x1 x2 x3 h cs).1.1
      = rowPieces (layer1 (k1_pay80 (View.readAt (Elt F) arg1.view (Rect.unit (s := S1x32x5760) ![0, 0, 0] S1x32x5760.size inb_S1x32x5760_S1x32x5760_0_0_0).toLoadRect (harg1.unread x0)) (View.readAt (Elt F) arg6.view (Rect.unit (s := S32x1440) ![0, 0] S32x1440.size inb_S32x1440_S32x1440_0_0).toLoadRect (harg6.unread h)) (View.readAt (Elt F) arg2.view (Rect.unit (s := S1440x5760) ![0, 0] S1440x2944.size inb_S1440x5760_S1440x2944_0_0).toLoadRect (harg2.unread x1)) (View.readAt (Elt F) arg2.view (Rect.unit (s := S1440x5760) ![0, 2944] S1440x2816.size inb_S1440x5760_S1440x2816_0_2944).toLoadRect (harg2.unread x1)) (View.readAt (Elt F) arg7.view (Rect.unit (s := S32x1440) ![0, 0] S32x1440.size inb_S32x1440_S32x1440_0_0).toLoadRect (harg7.unread cs))) (View.readAt (Elt F) arg4.view (Rect.unit (s := S16x32) ![0, 0] S16x32.size inb_S16x32_S16x32_0_0).toLoadRect (harg4.unread x3)) (View.readAt (Elt F) arg3.view (Rect.unit (s := S90x90) ![0, 0] S90x90.size inb_S90x90_S90x90_0_0).toLoadRect (harg3.unread x2))) := by
  sl_kernel_rfl

set_option maxHeartbeats 1000000 in
set_option maxRecDepth 65536 in
theorem lastRun_hid (c : Dev nD) (i : grid1.Coords) (h1 : ¬ Scalar.cmpi .ne (Scalar.extui (Scalar.cmpi .eq (BitVec.ofNat 32 (i 0).val) 0#32) : BitVec 32) 0#32 = 1#1) (h2 : k1_cond2 i = 1#1) (arg1 : Memref sig .tc .vmem S1x32x5760 .bf16) (harg1 : arg1.IsWhole) (arg2 : Memref sig .tc .vmem S1440x5760 .f32) (harg2 : arg2.IsWhole)
    (arg3 : Memref sig .tc .vmem S90x90 .f32) (harg3 : arg3.IsWhole) (arg4 : Memref sig .tc .vmem S16x32 .f32) (harg4 : arg4.IsWhole)
    (arg5 : Memref sig .tc .vmem S32x90x90 .f32) (harg5 : arg5.IsWhole) (arg6 : Memref sig .tc .vmem S32x1440 .f32) (harg6 : arg6.IsWhole)
    (arg7 : Memref sig .tc .vmem S32x1440 .f32) (harg7 : arg7.IsWhole)
    (x0 : Vec F S1x32x5760 .bf16) (x1 : Vec F S1440x5760 .f32) (x2 : Vec F S90x90 .f32) (x3 : Vec F S16x32 .f32) (h cs : Vec F S32x1440 .f32) :
    (lastRun c i h1 h2 arg1 harg1 arg2 harg2 arg3 harg3 arg4 harg4 arg5 harg5 arg6 harg6 arg7 harg7 x0 x1 x2 x3 h cs).1.2
      = ([⟨Rect.unit (s := S32x1440) ![0, 0] S32x1440.size inb_S32x1440_S32x1440_0_0, k1_pay82 (View.readAt (Elt F) arg1.view (Rect.unit (s := S1x32x5760) ![0, 0, 0] S1x32x5760.size inb_S1x32x5760_S1x32x5760_0_0_0).toLoadRect (harg1.unread x0)) (View.readAt (Elt F) arg6.view (Rect.unit (s := S32x1440) ![0, 0] S32x1440.size inb_S32x1440_S32x1440_0_0).toLoadRect (harg6.unread h)) (View.readAt (Elt F) arg2.view (Rect.unit (s := S1440x5760) ![0, 0] S1440x2944.size inb_S1440x5760_S1440x2944_0_0).toLoadRect (harg2.unread x1)) (View.readAt (Elt F) arg2.view (Rect.unit (s := S1440x5760) ![0, 2944] S1440x2816.size inb_S1440x5760_S1440x2816_0_2944).toLoadRect (harg2.unread x1)) (View.readAt (Elt F) arg7.view (Rect.unit (s := S32x1440) ![0, 0] S32x1440.size inb_S32x1440_S32x1440_0_0).toLoadRect (harg7.unread cs))⟩],
         [⟨Rect.unit (s := S32x1440) ![0, 0] S32x1440.size inb_S32x1440_S32x1440_0_0, k1_pay81 (View.readAt (Elt F) arg1.view (Rect.unit (s := S1x32x5760) ![0, 0, 0] S1x32x5760.size inb_S1x32x5760_S1x32x5760_0_0_0).toLoadRect (harg1.unread x0)) (View.readAt (Elt F) arg6.view (Rect.unit (s := S32x1440) ![0, 0] S32x1440.size inb_S32x1440_S32x1440_0_0).toLoadRect (harg6.unread h)) (View.readAt (Elt F) arg2.view (Rect.unit (s := S1440x5760) ![0, 0] S1440x2944.size inb_S1440x5760_S1440x2944_0_0).toLoadRect (harg2.unread x1)) (View.readAt (Elt F) arg2.view (Rect.unit (s := S1440x5760) ![0, 2944] S1440x2816.size inb_S1440x5760_S1440x2816_0_2944).toLoadRect (harg2.unread x1)) (View.readAt (Elt F) arg7.view (Rect.unit (s := S32x1440) ![0, 0] S32x1440.size inb_S32x1440_S32x1440_0_0).toLoadRect (harg7.unread cs))⟩]) := by
  sl_kernel_rfl

/-- The pieces, written, leave the decoded rows. -/
theorem read_rowPieces (m : Memref sig .tc .vmem S32x90x90 .f32) (f : m.view.ty.Contents (Elt F)) (u : FVec F S90x1024 .f32) :
    m.view.read (Elt F) (m.view.writes (Elt F) f (rowPieces u)) = decoded u := by
  funext y
  refine View.read_tilePieces (Val := Elt F) m.view f S1x90x90.size (fun n : Fin 32 => ![n.val, 0, 0]) row_inb (fun n => decRow u n) 32 le_rfl y (y 0) (y 0).isLt
    (ValueIdx.ix3 (0 : Fin 1) (y 1) (y 2)) ?_ 0 ?_
  · intro a
    match a with
    | ⟨0, _⟩ => rfl
    | ⟨1, _⟩ => exact (Nat.zero_add _).symm
    | ⟨2, _⟩ => exact (Nat.zero_add _).symm
  · intro n hn
    have : n.val ≠ (y 0).val := fun e => hn (Fin.ext e)
    show (y 0).val < n.val ∨ n.val + 1 ≤ (y 0).val
    omega

/-- The last grid point: one step of the recurrence, then the decoder on the new hidden state. -/
theorem last_triple (c : Dev nD) (i : grid1.Coords) (h1 : ¬ Scalar.cmpi .ne (Scalar.extui (Scalar.cmpi .eq (BitVec.ofNat 32 (i 0).val) 0#32) : BitVec 32) 0#32 = 1#1) (h2 : k1_cond2 i = 1#1) (arg1 : Memref sig .tc .vmem S1x32x5760 .bf16) (harg1 : arg1.IsWhole) (arg2 : Memref sig .tc .vmem S1440x5760 .f32) (harg2 : arg2.IsWhole)
    (arg3 : Memref sig .tc .vmem S90x90 .f32) (harg3 : arg3.IsWhole) (arg4 : Memref sig .tc .vmem S16x32 .f32) (harg4 : arg4.IsWhole)
    (arg5 : Memref sig .tc .vmem S32x90x90 .f32) (harg5 : arg5.IsWhole) (arg6 : Memref sig .tc .vmem S32x1440 .f32) (harg6 : arg6.IsWhole)
    (arg7 : Memref sig .tc .vmem S32x1440 .f32) (harg7 : arg7.IsWhole)
    (x0 : Vec F S1x32x5760 .bf16) (x1 : Vec F S1440x5760 .f32) (x2 : Vec F S90x90 .f32) (x3 : Vec F S16x32 .f32) (h cs : Vec F S32x1440 .f32)
    (E : Set ℕ) (K : PUnit → sProp 𝕄) :
    iprop(iprop(owns (c : Thread nD τ) arg1 fullShare x0 ∗ owns (c : Thread nD τ) arg2 fullShare x1 ∗ owns (c : Thread nD τ) arg3 fullShare x2 ∗ owns (c : Thread nD τ) arg4 fullShare x3) ∗ (∃ d, owns (c : Thread nD τ) arg5 fullShare d) ∗ owns (c : Thread nD τ) arg6 fullShare h ∗ owns (c : Thread nD τ) arg7 fullShare cs
        ∗ (iprop(iprop(owns (c : Thread nD τ) arg1 fullShare x0 ∗ owns (c : Thread nD τ) arg2 fullShare x1 ∗ owns (c : Thread nD τ) arg3 fullShare x2 ∗ owns (c : Thread nD τ) arg4 fullShare x3) ∗ owns (c : Thread nD τ) arg5 fullShare (decoded (layer1 (hidOut x0 x1 h cs) x3 x2)) ∗ owns (c : Thread nD τ) arg6 fullShare (hidNext x0 x1 h cs) ∗ owns (c : Thread nD τ) arg7 fullShare (cellNext x0 x1 h cs)) -∗ K ⟨⟩))
      ⊢ wp frame (wpE (defs₀ (F := F)) Variants.none c none) E (cc1__lstm_kernel i arg1 harg1 arg2 harg2 arg3 harg3 arg4 harg4 arg5 harg5 arg6 harg6 arg7 harg7) K := by
  iintro ⟨H, Ho, Hh, Hc, Hk⟩
  iapply ((lastRun c i h1 h2 arg1 harg1 arg2 harg2 arg3 harg3 arg4 harg4 arg5 harg5 arg6 harg6 arg7 harg7 x0 x1 x2 x3 h cs).2 E K)
  isplitl [H]; · iexact H
  isplitl [Ho]; · iexact Ho
  isplitl [Hh]; · iexact Hh
  isplitl [Hc]; · iexact Hc
  iintro ⟨H, ⟨%f, Ho⟩, Hh, Hc⟩
  iapply Hk
  isplitl [H]; · iexact H
  isplitl [Ho]
  · unfold owns; iexists _
    isplitr [Ho]; rotate_left; · iexact Ho
    ipureintro
    rw [lastRun_out, read_rowPieces, readAt_whole, readAt_whole, readAt_whole, readAt_whole, readAt_whole, readAt_lo, readAt_hi]
    rfl
  isplitl [Hh]
  · unfold owns; iexists _
    isplitr [Hh]; rotate_left; · iexact Hh
    ipureintro
    rw [lastRun_hid, readAt_whole, readAt_whole, readAt_whole, readAt_lo, readAt_hi]
    exact View.read_writes_full arg6.view _ inb_S32x1440_S32x1440_0_0 _ []
  unfold owns; iexists _
  isplitr [Hc]; rotate_left; · iexact Hc
  ipureintro
  rw [lastRun_hid, readAt_whole, readAt_whole, readAt_whole, readAt_lo, readAt_hi]
  exact View.read_writes_full arg7.view _ inb_S32x1440_S32x1440_0_0 _ []

end Cert.KernelIdeal.Hand

end
-- ==== Proof.KernelIdeal.Region1.lean ====
/- The second call as a pipeline region: its proof data, with the recurrent state described step by step, and its body
   obligation. -/
module

public import proofs.«01_k».proof.Proof.KernelIdeal.Body1
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The body clears its state at the first point only. -/
theorem cond1_iff : ∀ t : Fin cfg1.N, Scalar.cmpi .ne (Scalar.extui (Scalar.cmpi .eq (BitVec.ofNat 32 (grid1.coords t 0).val) 0#32) : BitVec 32) 0#32 = 1#1 ↔ t.val = 0 := by
  decide +kernel

/-- The body decodes at the last point only. -/
theorem cond2_iff : ∀ t : Fin cfg1.N, k1_cond2 (grid1.coords t) = 1#1 ↔ t.val = 19 := by decide +kernel

/-- The output block is stored at the last point only, -/
theorem idle4_iff : ∀ t : Fin cfg1.N, cfg1.idle 4 (grid1.coords t) = true ↔ t.val ≠ 19 := by decide +kernel

/-- and written back at the last point only. -/
theorem flush4_of (t : Fin cfg1.N) (h : t.val ≠ 19) : (cfg1.win 4).flush t = false := by
  have ht : t.val < 20 := t.isLt
  cases e : (cfg1.win 4).flush t
  · rfl
  · exact absurd ((flush1_4 t).1 e) (by rw [Nat.mod_eq_of_lt ht]; exact h)

/-- The hidden and the cell state before step `n`. -/
def state (c : Dev nD) : ℕ → Vec F S32x1440 .f32 × Vec F S32x1440 .f32
  | 0 => (k1_pay75, k1_pay76)
  | n + 1 => if h : n < cfg1.N then
      (hidNext (iblk1 V c 0 ⟨n, h⟩) (iblk1 V c 1 ⟨n, h⟩) (state c n).1 (state c n).2,
        cellNext (iblk1 V c 0 ⟨n, h⟩) (iblk1 V c 1 ⟨n, h⟩) (state c n).1 (state c n).2)
    else state c n

/-- The state after the step at point `t`. -/
theorem state_succ (c : Dev nD) (t : Fin cfg1.N) :
    state V c (t.val + 1) = (hidNext (iblk1 V c 0 t) (iblk1 V c 1 t) (state V c t.val).1 (state V c t.val).2,
      cellNext (iblk1 V c 0 t) (iblk1 V c 1 t) (state V c t.val).1 (state V c t.val).2) := by
  rw [state, dif_pos t.isLt]

/-- What the body leaves in the output block at the last point: the decoded adjacency of the last hidden state. -/
def outAt1 (c : Dev nD) (t : Fin cfg1.N) : Vec F S32x90x90 .f32 :=
  decoded (layer1 (hidOut (iblk1 V c 0 t) (iblk1 V c 1 t) (state V c t.val).1 (state V c t.val).2) (iblk1 V c 3 t) (iblk1 V c 2 t))

/-- The scoped buffers of the first call, at some contents. -/
def others1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_scratch0), ((c : Thread nD τ).loc cc0_scratch0) ↦{fullShare} f))

/-- The two state buffers as memrefs. -/
abbrev scM1_0 : Memref sig .tc .vmem S32x1440 .f32 := Memref.whole cc1_scratch0
abbrev scM1_1 : Memref sig .tc .vmem S32x1440 .f32 := Memref.whole cc1_scratch1

/-- The invariant before point `n`: past the first point the two state buffers hold the state before step `n`. -/
def inv1 (c : Dev nD) (n : ℕ) : sProp 𝕄 :=
  iprop((iprop(∃ h cs, ⌜n ≠ 0 → h = (state V c n).1 ∧ cs = (state V c n).2⌝ ∗ owns (c : Thread nD τ) scM1_0 fullShare h ∗ owns (c : Thread nD τ) scM1_1 fullShare cs)
    ∗ others1 c) ∗ ∃ r, prngReg c r)

/-- From the buffers at any contents, the invariant before the first point. -/
theorem inv1_start (c : Dev nD) : (Pipeline.ΦA spec1 c : sProp 𝕄) ⊢ inv1 V c 0 := by
  unfold Pipeline.ΦA inv1 others1; rw [scopedRest1_eq]; simp only [scM1_0, scM1_1, owns_whole]
  iintro ⟨⟨R0, R1, R2, R3, R4, R5, R6, R7, R8, R9, R10, R11, R12, R13, R14, R15, ⟨%h, HS0⟩, ⟨%cs, HS1⟩⟩, Hg⟩
  isplitr [Hg]; rotate_left; · iexact Hg
  isplitl [HS0 HS1]
  · iexists h, cs; isplitr; · ipureintro; exact fun e => absurd rfl e
    isplitl [HS0]; · iexact HS0
    iexact HS1
  isplitl [R0]; · iexact R0
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  isplitl [R9]; · iexact R9
  isplitl [R10]; · iexact R10
  isplitl [R11]; · iexact R11
  isplitl [R12]; · iexact R12
  isplitl [R13]; · iexact R13
  isplitl [R14]; · iexact R14
  iexact R15

/-- The invariant gives the buffers back at some contents. -/
theorem inv1_end (c : Dev nD) (n : ℕ) : inv1 V c n ⊢ (Pipeline.ΦA spec1 c : sProp 𝕄) := by
  unfold Pipeline.ΦA inv1 others1; rw [scopedRest1_eq]; simp only [scM1_0, scM1_1, owns_whole]
  iintro ⟨⟨⟨%h, %cs, -, HS0, HS1⟩, ⟨R0, R1, R2, R3, R4, R5, R6, R7, R8, R9, R10, R11, R12, R13, R14, R15⟩⟩, Hg⟩
  isplitr [Hg]; rotate_left; · iexact Hg
  isplitl [R0]; · iexact R0
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  isplitl [R9]; · iexact R9
  isplitl [R10]; · iexact R10
  isplitl [R11]; · iexact R11
  isplitl [R12]; · iexact R12
  isplitl [R13]; · iexact R13
  isplitl [R14]; · iexact R14
  isplitl [R15]; · iexact R15
  isplitl [HS0]; · iexists h; iexact HS0
  iexists cs; iexact HS1

/-- The proof data of the second call: the arrays as the region finds them, the input blocks left in place, the output block at
    `outAt1`, the invariant `inv1`, nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => outAt1 V c t
  Φ t := inv1 V c t.val
  q _ := fullShare
  owed _ := 0

/-- The proof data's arrays are the region's entry contents. -/
theorem A_eq1 (c : Dev nD) (w : Fin cfg1.W) : (dat1 V c).A w = V c (Pipeline.arrRef spec1 w) := by
  dsimp only [dat1]

/-- The body leaves input window 0's block in place, and finds it there. -/
theorem after1_0 (c : Dev nD) (t : Fin cfg1.N) : (dat1 V c).after 0 t = iblk1 V c 0 t := by dsimp only [dat1]
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
/-- The body leaves input window 1's block in place, and finds it there. -/
theorem after1_1 (c : Dev nD) (t : Fin cfg1.N) : (dat1 V c).after 1 t = iblk1 V c 1 t := by dsimp only [dat1]
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
/-- The body leaves input window 2's block in place, and finds it there. -/
theorem after1_2 (c : Dev nD) (t : Fin cfg1.N) : (dat1 V c).after 2 t = iblk1 V c 2 t := by dsimp only [dat1]
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)
/-- The body leaves input window 3's block in place, and finds it there. -/
theorem after1_3 (c : Dev nD) (t : Fin cfg1.N) : (dat1 V c).after 3 t = iblk1 V c 3 t := by dsimp only [dat1]
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)
/-- The body leaves the output block at `outAt1` where it stores it. -/
theorem after1_4 (c : Dev nD) (t : Fin cfg1.N) : (dat1 V c).after 4 t = outAt1 V c t := by dsimp only [dat1]

abbrev ms1_0 (t : Fin cfg1.N) : Memref sig .tc .vmem S1x32x5760 .bf16 := win1_0.stage (cfg1.slots t 0)
abbrev ms1_1 (t : Fin cfg1.N) : Memref sig .tc .vmem S1440x5760 .f32 := win1_1.stage (cfg1.slots t 1)
abbrev ms1_2 (t : Fin cfg1.N) : Memref sig .tc .vmem S90x90 .f32 := win1_2.stage (cfg1.slots t 2)
abbrev ms1_3 (t : Fin cfg1.N) : Memref sig .tc .vmem S16x32 .f32 := win1_3.stage (cfg1.slots t 3)
abbrev ms1_4 (t : Fin cfg1.N) : Memref sig .tc .vmem S32x90x90 .f32 := win1_4.stage (cfg1.slots t 4)

/-- What the body is called with at point `t`, window by window. -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- What the body returns at point `t`, window by window: the output block as found at a point that does not store it. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ (dat1 V c).leavesExact 4 t)

/-- The body at a point, by the rule of its case. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = inv1 V c (t.val + 1) from rfl,
    show (dat1 V c).owesAt () t.succ = (dat1 V c).owesAt () t.castSucc from rfl,
    after1_0, after1_1, after1_2, after1_3]
  rw [show (dat1 V c).Φ t.castSucc = inv1 V c t.val from rfl]
  unfold inv1
  iintro ⟨⟨⟨⟨%h, %cs, %hs, HS0, HS1⟩, HR⟩, Hg⟩, Ho, ⟨%d0, H0⟩, ⟨%d1, H1⟩, ⟨%d2, H2⟩, ⟨%d3, H3⟩, ⟨%d4, H4⟩⟩
  by_cases h0 : t.val = 0
  · have hne : t.val ≠ 19 := by omega
    have e0 : (state V c t.val).1 = k1_pay75 := by rw [h0]; rfl
    have e1 : (state V c t.val).2 = k1_pay76 := by rw [h0]; rfl
    iapply (init_triple c (grid1.coords t) ((cond1_iff t).2 h0) (fun e => hne ((cond2_iff t).1 e)) _ _ _ _ _ _ _ _ _ _ _ _ _ _ (iblk1 V c 0 t) (iblk1 V c 1 t) Set.univ _)
    isplitl [H0]; · iexact H0
    isplitl [H1]; · iexact H1
    isplitl [HS0]; · iexists _; iexact HS0
    isplitl [HS1]; · iexists _; iexact HS1
    iintro ⟨H0, H1, HS0, HS1⟩
    isplitl [HS0 HS1 HR Hg]
    · isplitr [Hg]; rotate_left; · iexact Hg
      isplitr [HR]; rotate_left; · iexact HR
      iexists _, _; isplitr [HS0 HS1]; rotate_left
      · isplitl [HS0]; · iexact HS0
        iexact HS1
      ipureintro; intro _; rw [state_succ]; exact ⟨by rw [e0, e1], by rw [e0, e1]⟩
    isplitl [Ho]; · iexact Ho
    isplitl [H0]; · iexact H0
    isplitl [H1]; · iexact H1
    isplitl [H2]; · iexact H2
    isplitl [H3]; · iexact H3
    rw [(dat1 V c).leavesExact_idle 4 t ((idle4_iff t).2 hne) (flush4_of t hne)]
    iexists d4; iexact H4
  obtain ⟨rfl, rfl⟩ := hs h0
  by_cases h9 : t.val = 19
  · iapply (last_triple c (grid1.coords t) (fun e => h0 ((cond1_iff t).1 e)) ((cond2_iff t).2 h9) _ _ _ _ _ _ _ _ _ _ _ _ _ _ (iblk1 V c 0 t) (iblk1 V c 1 t) (iblk1 V c 2 t) (iblk1 V c 3 t) (state V c t.val).1 (state V c t.val).2 Set.univ _)
    isplitl [H0 H1 H2 H3]
    · isplitl [H0]; · iexact H0
      isplitl [H1]; · iexact H1
      isplitl [H2]; · iexact H2
      iexact H3
    isplitl [H4]; · iexists _; iexact H4
    isplitl [HS0]; · iexact HS0
    isplitl [HS1]; · iexact HS1
    iintro ⟨⟨H0, H1, H2, H3⟩, H4, HS0, HS1⟩
    isplitl [HS0 HS1 HR Hg]
    · isplitr [Hg]; rotate_left; · iexact Hg
      isplitr [HR]; rotate_left; · iexact HR
      iexists _, _; isplitr [HS0 HS1]; rotate_left
      · isplitl [HS0]; · iexact HS0
        iexact HS1
      ipureintro; intro _; rw [state_succ]; exact ⟨rfl, rfl⟩
    isplitl [Ho]; · iexact Ho
    isplitl [H0]; · iexact H0
    isplitl [H1]; · iexact H1
    isplitl [H2]; · iexact H2
    isplitl [H3]; · iexact H3
    have hi : cfg1.idle 4 (cfg1.grid.coords t) = false := by
      cases e : cfg1.idle 4 (cfg1.grid.coords t)
      · rfl
      · exact absurd h9 ((idle4_iff t).1 e)
    rw [show (dat1 V c).leavesExact 4 t = owns (c : Thread nD τ) (ms1_4 t) fullShare (outAt1 V c t) from by
      unfold Dat.leavesExact; rw [hi, after1_4]]
    iexact H4
  · iapply (mid_triple c (grid1.coords t) (fun e => h0 ((cond1_iff t).1 e)) (fun e => h9 ((cond2_iff t).1 e)) _ _ _ _ _ _ _ _ _ _ _ _ _ _ (iblk1 V c 0 t) (iblk1 V c 1 t) (state V c t.val).1 (state V c t.val).2 Set.univ _)
    isplitl [H0]; · iexact H0
    isplitl [H1]; · iexact H1
    isplitl [HS0]; · iexact HS0
    isplitl [HS1]; · iexact HS1
    iintro ⟨H0, H1, HS0, HS1⟩
    isplitl [HS0 HS1 HR Hg]
    · isplitr [Hg]; rotate_left; · iexact Hg
      isplitr [HR]; rotate_left; · iexact HR
      iexists _, _; isplitr [HS0 HS1]; rotate_left
      · isplitl [HS0]; · iexact HS0
        iexact HS1
      ipureintro; intro _; rw [state_succ]; exact ⟨rfl, rfl⟩
    isplitl [Ho]; · iexact Ho
    isplitl [H0]; · iexact H0
    isplitl [H1]; · iexact H1
    isplitl [H2]; · iexact H2
    isplitl [H3]; · iexact H3
    rw [(dat1 V c).leavesExact_idle 4 t ((idle4_iff t).2 h9) (flush4_of t h9)]
    iexists d4; iexact H4

/-- The body table's row at point `t`'s slots is the body as `bodyAt1` spells it. -/
theorem defs₀_row1 (t : Fin cfg1.N) : defs₀ (F := F) .tc cfg1.body (cfg1.bodyArgs t (cfg1.slots t)) = bodyAt1 t := by
  unfold defs₀; rw [Defs.onTc_tc]

/-- The second call's body obligation, at every point. -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Cert.KernelIdeal.Hand

end
-- ==== Proof.KernelIdeal.Run.lean ====
/- The whole program: the contents of the unscoped buffers at each boundary between its host operations and its two calls, and
   the run from the launch to the return. -/
module

public import proofs.«01_k».proof.Proof.KernelIdeal.Region0
public import proofs.«01_k».proof.Proof.KernelIdeal.Region1
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The program's argument arrays. -/
abbrev argRefs : List (Ref sig .tc) := [main_arg0, main_arg1, main_arg2, main_arg3, main_arg4, main_arg5, main_arg6, main_arg7, main_arg8, main_arg9, main_arg10]

/-! ## What each stretch of the program leaves -/

/-- The first host operation writes `main_v0` only, the last `main_v3` only. -/
theorem hostOps0_writes : (hostOps0 : List (HloOp τ sig (Elt F))).Forall fun op => op.writes ⊆ (([main_v0] : List (Ref sig .tc)).map (Proc.devRef (τ := τ) .tc)).toFinset :=
  StableHlo.forall_writes_sub_of_map rfl
theorem hostOps2_writes : (hostOps2 : List (HloOp τ sig (Elt F))).Forall fun op => op.writes ⊆ (([main_v3] : List (Ref sig .tc)).map (Proc.devRef (τ := τ) .tc)).toFinset :=
  StableHlo.forall_writes_sub_of_map rfl

/-- Neither allocates a buffer. -/
theorem hostOps0_fresh : (hostOps0 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor

/-- The buffers at the launch, -/
abbrev W0 : Dev nD → Valuation τ sig (Elt F) := fun c b => (s₀ m ρ).mem ((c : Dev nD), b)
/-- after the first host operation, -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- after the first call, -/
def W2 (c : Dev nD) : Valuation τ sig (Elt F) :=
  Pipeline.withArrays spec0 c (W1 m ρ c) fun w => (dat0 (V1 m ρ) c).arrAt w cfg0.N
abbrev V2 : (c : Dev nD) → (b : Ref sig .tc) → Buf (Elt F) ((c : Thread nD τ).loc b) := fun c b => W2 m ρ c b
/-- after the second call, -/
def W3 (c : Dev nD) : Valuation τ sig (Elt F) :=
  Pipeline.withArrays spec1 c (W2 m ρ c) fun w => (dat1 (V2 m ρ) c).arrAt w cfg1.N
abbrev V3 : (c : Dev nD) → (b : Ref sig .tc) → Buf (Elt F) ((c : Thread nD τ).loc b) := fun c b => W3 m ρ c b
/-- and at the return. -/
abbrev W4 : Dev nD → Valuation τ sig (Elt F) := fun c => StableHlo.after hostOps2 (W3 m ρ c)

/-- The first host operation keeps every buffer but `main_v0`. -/
theorem W1_of (c : Dev nD) (r : Ref sig .tc) (h : r ∉ ([main_v0] : List (Ref sig .tc))) : W1 m ρ c (Proc.devRef .tc r) = W0 m ρ c (Proc.devRef .tc r) :=
  StableHlo.after_of_writes_sub hostOps0 _ hostOps0_writes h
/-- The last host operation keeps every buffer but `main_v3`. -/
theorem W4_of (c : Dev nD) (r : Ref sig .tc) (h : r ∉ ([main_v3] : List (Ref sig .tc))) : W4 m ρ c (Proc.devRef .tc r) = W3 m ρ c (Proc.devRef .tc r) :=
  StableHlo.after_of_writes_sub hostOps2 _ hostOps2_writes h

/-- The first call leaves each of its arrays at what its write-backs make of it, -/
theorem W2_arr (c : Dev nD) (w : Fin cfg0.W) :
    W2 m ρ c (Proc.devRef .tc (Pipeline.arrRef spec0 w)) = (dat0 (V1 m ρ) c).arrAt w cfg0.N := by
  unfold W2; exact (dat0 (V1 m ρ) c).withArrays_arrAt launch₀0.sharedIn _ (A_eq0 (V1 m ρ) c) w
/-- every other buffer as it was, -/
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- and so every buffer that is none of its output arrays. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩

/-- The second call likewise. -/
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
theorem W3_of (c : Dev nD) (r : Ref sig .tc) (h : ∀ w : Fin cfg1.W, Pipeline.arrRef spec1 w = r → (cfg1.win w).isOut = false) :
    W3 m ρ c (Proc.devRef .tc r) = W2 m ρ c (Proc.devRef .tc r) := by
  by_cases hw : ∃ w : Fin cfg1.W, Pipeline.arrRef spec1 w = r
  · obtain ⟨w, rfl⟩ := hw
    exact (W3_arr m ρ c w).trans (((dat1 (V2 m ρ) c).arrAt_in w (h w rfl) _).trans (A_eq1 (V2 m ρ) c w))
  · exact W3_of_ne m ρ c r fun w e => hw ⟨w, e⟩

/-- No argument is written: by the host operations, or as an output array of a call. -/
theorem args_unwritten : ∀ a ∈ argRefs, a ∉ ([main_v0] : List (Ref sig .tc)) ∧ a ∉ ([main_v3] : List (Ref sig .tc))
    ∧ (∀ w : Fin cfg0.W, Pipeline.arrRef spec0 w = a → (cfg0.win w).isOut = false)
    ∧ (∀ w : Fin cfg1.W, Pipeline.arrRef spec1 w = a → (cfg1.win w).isOut = false) :=
  ListAll.forall_mem_of_all_decide (by decide +kernel)

/-- The arguments at the second call's entry and at the return are as at the launch. -/
theorem W1_args (c : Dev nD) (a : Ref sig .tc) (ha : a ∈ argRefs) : W1 m ρ c (Proc.devRef .tc a) = m ((c : Thread nD τ).loc a) :=
  W1_of m ρ c a (args_unwritten a ha).1
theorem W2_args (c : Dev nD) (a : Ref sig .tc) (ha : a ∈ argRefs) : W2 m ρ c (Proc.devRef .tc a) = m ((c : Thread nD τ).loc a) :=
  (W2_of m ρ c a (args_unwritten a ha).2.2.1).trans (W1_args m ρ c a ha)
theorem W4_args (c : Dev nD) (a : Ref sig .tc) (ha : a ∈ argRefs) : W4 m ρ c (Proc.devRef .tc a) = m ((c : Thread nD τ).loc a) :=
  (W4_of m ρ c a (args_unwritten a ha).2.1).trans ((W3_of m ρ c a (args_unwritten a ha).2.2.2).trans (W2_args m ρ c a ha))

/-- At a call's exit its arrays and the other buffers, as the launch lemmas ask. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ## The launch -/

/-- No pipeline has a prefetched table. -/
abbrev adm : (p : Fin 2) → (pcfgs (F := F) p).Adm := fun p => (cfgs p).toPCfg_adm
/-- Every pipeline's proof data, at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
/-- No core owes another anything. -/
abbrev L : GSem nD τ sig → Finset Unit := fun _ => ∅
abbrev lv : GSem nD τ sig → Unit → ℕ := fun _ _ => 0
/-- What rides beside the buffers: the generator register at some state, and nothing owed. -/
abbrev R (c : Dev nD) : sProp 𝕄 := iprop((∃ r, prngReg c r) ∗ ∃ W, owes (c : Thread nD τ) (0 : CellTallies nD τ sig Unit) W)
/-- A host stretch as a segment from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state: every unscoped buffer at the return's contents, the generator register at some state. -/
abbrev Tₙ (c : Dev nD) : sProp 𝕄 := iprop(StableHlo.held (c : Thread nD τ) (Pipeline.ucRefs τ sig) (W4 m ρ c) ∗ ∃ r, prngReg c r)

set_option backward.isDefEq.respectTransparency.types false in
/-- Call 0 as a segment: entered with the unscoped buffers at `W1`, left with them at `W2`. -/
def reg0 : Pipeline.RegionSeg (pcfgs (F := F)) adm (pdats m ρ) () defs₀ 𝒱₀ L lv 0 where
  win := launch₀0.win
  block_pos := launch₀0.block_pos
  stage_whole := launch₀0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs_shared (p := 0) (pcfgs (F := F)) adm (pdats m ρ) launch₀0.win launch₀0.sharedIn launch₀0.arr_whole c
      (fun _ _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have hs := inv0_start (V1 m ρ) c
    unfold Pipeline.ΦA at hs
    rw [show (pdats m ρ 0 c).Φ 0 = inv0 (V1 m ρ) c 0 from rfl]
    iintro ⟨Hp, -, Hr⟩
    iapply hs
    isplitl [Hr]; · iexact Hr
    iexact Hp
  hout c := by
    have hs := inv0_end (V1 m ρ) c cfg0.N
    unfold Pipeline.ΦA at hs
    rw [Pipeline.ownSems0_none, show (pdats m ρ 0 c).Φ (Fin.last _) = inv0 (V1 m ρ) c cfg0.N from rfl]
    iintro H
    ihave H := hs $$ H
    icases H with ⟨Hr, Hp⟩
    isplitl [Hp]; · iexact Hp
    isplitr; · iempintro
    iexact Hr
  hexit c := by
    have hjoin := Pipeline.unscopedBufs_of_arrays_shared (p := 0) (pcfgs (F := F)) adm (Ix := Unit) (Name := ℕ) (U := UR sig nD τ) (Lvl := ℕ)
      launch₀0.win launch₀0.sharedIn launch₀0.arr_whole c (pdats m ρ) (fun _ _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 1 as a segment: entered with the unscoped buffers at `W2`, left with them at `W3`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) (A_eq1 (V2 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have hs := inv1_start (V2 m ρ) c
    unfold Pipeline.ΦA at hs
    rw [show (pdats m ρ 1 c).Φ 0 = inv1 (V2 m ρ) c 0 from rfl]
    iintro ⟨Hp, -, Hr⟩
    iapply hs
    isplitl [Hr]; · iexact Hr
    iexact Hp
  hout c := by
    have hs := inv1_end (V2 m ρ) c cfg1.N
    unfold Pipeline.ΦA at hs
    rw [Pipeline.ownSems0_none, show (pdats m ρ 1 c).Φ (Fin.last _) = inv1 (V2 m ρ) c cfg1.N from rfl]
    iintro H
    ihave H := hs $$ H
    icases H with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The program's four segments. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)) ]
/-- The program is the run of its segments. -/
theorem main_run (c : Dev nD) : main (F := F) c = Pipeline.Seg.run (segs m ρ) := (main_chain c).trans (by chain_rfl)

/-- The core has no unscoped semaphore. -/
theorem no_unscoped : ∀ sm : SemLoc sig, sm.isScoped .tc = true := by decide

set_option backward.isDefEq.respectTransparency.types false in
/-- From any memory with zero counters the program runs without fault to the end, leaving every unscoped buffer at the return's
    contents and every semaphore counter at zero. -/
theorem run : θ_run defs (onTc (τ := τ) (main (F := F))) ⟨m, fun _ => 0, ρ⟩ (fun r =>
      (∀ c : Dev nD, ∀ b ∈ Pipeline.ucRefs τ sig, r.2.mem ((c : Thread nD τ).1, b) = W4 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => ⟨h, funext fun g => hz g (.inr (no_unscoped g.2))⟩)

/-- An argument is an unscoped buffer. -/
theorem args_uc : ∀ a ∈ argRefs, ¬ (Proc.devRef .tc a : DevRef τ sig).isScoped := by decide

/-- What `run` says of the argument arrays: they end as launched. -/
theorem kept {mem : (ℓ : Loc nD τ sig) → Buf (Elt F) ℓ} (h : ∀ c : Dev nD, ∀ b ∈ Pipeline.ucRefs τ sig, mem ((c : Thread nD τ).1, b) = W4 m ρ c b) (c : Dev nD)
    (a : Ref sig .tc) (ha : a ∈ argRefs) : mem ((c.tc : Thread nD τ).loc a) = m ((c.tc : Thread nD τ).loc a) :=
  (h c _ (mem_uc a (args_uc a ha))).trans (W4_args m ρ c a ha)

/-- The program terminates without fault with its argument arrays as launched and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  (θ_run defs _ _).mono (fun r h => ⟨fun c => ⟨kept m ρ h.1 c main_arg0 (by decide), kept m ρ h.1 c main_arg1 (by decide), kept m ρ h.1 c main_arg2 (by decide), kept m ρ h.1 c main_arg3 (by decide), kept m ρ h.1 c main_arg4 (by decide), kept m ρ h.1 c main_arg5 (by decide), kept m ρ h.1 c main_arg6 (by decide), kept m ρ h.1 c main_arg7 (by decide), kept m ρ h.1 c main_arg8 (by decide), kept m ρ h.1 c main_arg9 (by decide), kept m ρ h.1 c main_arg10 (by decide)⟩, h.2⟩) (run m ρ)

end Cert.KernelIdeal.Hand

end
-- ==== Proof.Value.Model.lean ====
/- The function both programs compute, over the extended reals, written on plain index functions: two layers of graph
   convolution, the recurrence over 20 time steps, and the decoded adjacency. -/
module

public import Idealize.ShloMosaic.Lib.Pointwise

@[expose] public section

noncomputable section

namespace Cert.Model

open Idealize.ShloMosaic

/-- Feature `q` of node `p` in graph `n`: `relu (adj (fc w))`. -/
def feat (fc adj : Fin 640 → Fin 90 → Fin 90 → EReal) (w : Fin 90 → Fin 16 → EReal) (n : Fin 640) (p : Fin 90) (q : Fin 16) : EReal :=
  max (∑ k, adj n p k * ∑ l, fc n k l * w l q) 0

/-- Input coordinate `d` of batch row `b` at time `t`: the features of graph `20 b + t`, laid out in one row. -/
def inp (fc adj : Fin 640 → Fin 90 → Fin 90 → EReal) (w : Fin 90 → Fin 16 → EReal) (b : Fin 32) (t : Fin 20) (d : Fin 1440) : EReal :=
  feat fc adj w ⟨b.val * 20 + t.val, by omega⟩ ⟨d.val / 16, by omega⟩ ⟨d.val % 16, by omega⟩

/-- The four gates' common affine map at column `col`: the input's product, the hidden state's product and the bias. -/
def affine (wx wh : Fin 1440 → Fin 5760 → EReal) (bias : Fin 5760 → EReal) (x h : Fin 1440 → EReal) (col : Fin 5760) : EReal :=
  (∑ k, x k * wx k col + ∑ k, h k * wh k col) + bias col

/-- The new cell: the forget gate times the old cell plus the input gate times the candidate. -/
def newCell (z : Fin 5760 → EReal) (cell : Fin 1440 → EReal) (d : Fin 1440) : EReal :=
  Ideal.logistic (z ⟨1440 + d.val, by omega⟩) * cell d
    + Ideal.logistic (z ⟨d.val, by omega⟩) * Ideal.tanh (z ⟨2880 + d.val, by omega⟩)

/-- The new hidden state: the output gate times the new cell's tangent. -/
def newHid (z : Fin 5760 → EReal) (cell : Fin 1440 → EReal) (d : Fin 1440) : EReal :=
  Ideal.logistic (z ⟨4320 + d.val, by omega⟩) * Ideal.tanh (newCell z cell d)

/-- The hidden state and the cell after `n` steps, from zero, on the inputs `x`. -/
def states (wx wh : Fin 1440 → Fin 5760 → EReal) (bias : Fin 5760 → EReal) (x : Fin 20 → Fin 1440 → EReal) :
    ℕ → (Fin 1440 → EReal) × (Fin 1440 → EReal)
  | 0 => (fun _ => 0, fun _ => 0)
  | n + 1 =>
    let s := states wx wh bias x n
    let z := affine wx wh bias (x ⟨n % 20, Nat.mod_lt _ (by decide)⟩) s.1
    (newHid z s.2, newCell z s.2)

/-- The decoder's hidden layer at node `p`: `relu (adj (h w))`. -/
def embed (adj : Fin 90 → Fin 90 → EReal) (w : Fin 16 → Fin 32 → EReal) (h : Fin 1440 → EReal) (p : Fin 90) (q : Fin 32) : EReal :=
  max (∑ k, adj p k * ∑ l : Fin 16, h ⟨k.val * 16 + l.val, by omega⟩ * w l q) 0

/-- The decoded adjacency: `relu (u uᵀ)` with ones on the diagonal. -/
def decode (u : Fin 90 → Fin 32 → EReal) (p q : Fin 90) : EReal :=
  if p = q then 1 else max (∑ k, u p k * u q k) 0

end Cert.Model

end
-- ==== Proof.Value.KernelSteps.lean ====
/- What the kernel's two bodies compute, read at an index over the extended reals: the feature slab, the projected block, one
   step of the recurrence, and the decoder. -/
module

public import proofs.«01_k».proof.Proof.KernelIdeal.Body1
public import proofs.«01_k».proof.Proof.Value.Model
public import Idealize.ShloMosaic.Lib.Pipeline.Value

@[expose] public section

set_option maxRecDepth 16384

noncomputable section

namespace Cert.KernelIdeal.Value

open Idealize.ShloMosaic Idealize.ShloMosaic.TcCoe Idealize.SL.Sem
open Cert.KernelIdeal Cert.KernelIdeal.Gen Cert.KernelIdeal.Hand

/-- An entry of the recurrent matrix's first 2944 columns. -/
theorem colsLo_apply (x1 : Vec Ideal S1440x5760 .f32) (k : Fin 1440) (c : Fin 2944) :
    colsLo x1 (ix2 k c) = x1 (ix2 k ⟨c.val, by omega⟩) := by
  refine congrArg x1 (funext fun a => ?_)
  refine Fin.ext ?_
  fin_cases a <;> simp [Rect.unit, Rect.emb, ix2]

/-- An entry of the recurrent matrix's last 2816 columns. -/
theorem colsHi_apply (x1 : Vec Ideal S1440x5760 .f32) (k : Fin 1440) (c : Fin 2816) :
    colsHi x1 (ix2 k c) = x1 (ix2 k ⟨2944 + c.val, by omega⟩) := by
  refine congrArg x1 (funext fun a => ?_)
  refine Fin.ext ?_
  fin_cases a <;> simp [Rect.unit, Rect.emb, ix2]

/-- Batch row `b`'s gates before their nonlinearities: the projected input plus the hidden state's product. -/
def gateRow (x0 : Vec Ideal S1x32x5760 .bf16) (x1 : Vec Ideal S1440x5760 .f32) (h : Vec Ideal S32x1440 .f32) (b : Fin 32) (col : Fin 5760) : EReal :=
  x0 (ix3 0 b col) + ∑ k : Fin 1440, h (ix2 b k) * x1 (ix2 k col)

/-- The stored cell is the recurrence's new cell of the gates. -/
theorem cell79_apply (x0 : Vec Ideal S1x32x5760 .bf16) (x1 : Vec Ideal S1440x5760 .f32) (h cs : Vec Ideal S32x1440 .f32) (b : Fin 32) (d : Fin 1440) :
    k1_pay79 x0 h (colsLo x1) (colsHi x1) cs (ix2 b d) = Model.newCell (gateRow x0 x1 h b) (fun e => cs (ix2 b e)) d := by
  pointwise [k1_pay79, k1_pay78, k1_pay77, colsLo_apply, colsHi_apply]
  unfold Model.newCell gateRow
  by_cases hd : d.val < 64
  · rw [dif_pos hd]
  · rw [dif_neg hd]
    have e : (⟨2944 + (d.val - 64), by omega⟩ : Fin 5760) = ⟨2880 + d.val, by omega⟩ := Fin.ext (by simp only; omega)
    rw [e]

theorem cellNext_apply (x0 : Vec Ideal S1x32x5760 .bf16) (x1 : Vec Ideal S1440x5760 .f32) (h cs : Vec Ideal S32x1440 .f32) (b : Fin 32) (d : Fin 1440) :
    cellNext x0 x1 h cs (ix2 b d) = Model.newCell (gateRow x0 x1 h b) (fun e => cs (ix2 b e)) d := by
  pointwise [cellNext, k1_pay81]
  exact cell79_apply x0 x1 h cs b d

/-- The new hidden state before it is stored. -/
theorem hidOut_apply (x0 : Vec Ideal S1x32x5760 .bf16) (x1 : Vec Ideal S1440x5760 .f32) (h cs : Vec Ideal S32x1440 .f32) (b : Fin 32) (d : Fin 1440) :
    hidOut x0 x1 h cs (ix2 b d) = Model.newHid (gateRow x0 x1 h b) (fun e => cs (ix2 b e)) d := by
  unfold Model.newHid
  rw [← cell79_apply]
  pointwise [hidOut, k1_pay80, k1_pay78, k1_pay77, colsHi_apply]
  unfold gateRow
  have e : (⟨2944 + (1376 + d.val), by omega⟩ : Fin 5760) = ⟨4320 + d.val, by omega⟩ := Fin.ext (by simp only; omega)
  rw [e]

theorem hidNext_apply (x0 : Vec Ideal S1x32x5760 .bf16) (x1 : Vec Ideal S1440x5760 .f32) (h cs : Vec Ideal S32x1440 .f32) (b : Fin 32) (d : Fin 1440) :
    hidNext x0 x1 h cs (ix2 b d) = Model.newHid (gateRow x0 x1 h b) (fun e => cs (ix2 b e)) d := by
  rw [← hidOut_apply]
  pointwise [hidNext, hidOut, k1_pay82]

/-- The recurrence starts from zero. -/
theorem start_hid (b : Fin 32) (d : Fin 1440) : (k1_pay75 : FVec Ideal S32x1440 .f32) (ix2 b d) = 0 := by
  pointwise [k1_pay75]

theorem start_cell (b : Fin 32) (d : Fin 1440) : (k1_pay76 : FVec Ideal S32x1440 .f32) (ix2 b d) = 0 := by
  pointwise [k1_pay76]

/-- The projected block at time `t`, batch row `b`, column `d`. -/
theorem proj_apply (v5 : Vec Ideal S8x20x1440 .bf16) (v8 : Vec Ideal S1440x1920 .f32) (v10 : Vec Ideal S1x1920 .f32) (t : Fin 20) (b : Fin 8) (d : Fin 1920) :
    k0_pay2 v5 v8 v10 (ix3 t b d) = ∑ k : Fin 1440, v5 (ix3 b t k) * v8 (ix2 k d) + v10 (ix2 0 d) := by
  pointwise [k0_pay2]

/-- One graph's features. -/
theorem graph_apply (w : Vec Ideal S90x16 .f32) (f a : Vec Ideal S1x90x90 .f32) (p : Fin 90) (q : Fin 16) :
    k0_pay3 w f a (ix2 p q) = max (∑ k : Fin 90, a (ix3 0 p k) * ∑ l : Fin 90, f (ix3 0 k l) * w (ix2 l q)) 0 := by
  pointwise [k0_pay3]

/-- The slab at batch row `b`, time `t`, coordinate `d`: the features of the block's graph `20 b + t`. -/
theorem slabOf_apply (w : Vec Ideal S90x16 .f32) (f a : Fin 160 → Vec Ideal S1x90x90 .f32) (b : Fin 8) (t : Fin 20) (d : Fin 1440) :
    slabOf w f a (ix3 b t d)
      = k0_pay3 w (f ⟨b.val * 20 + t.val, by omega⟩) (a ⟨b.val * 20 + t.val, by omega⟩) (ix2 ⟨d.val / 16, by omega⟩ ⟨d.val % 16, by omega⟩) := by
  pointwise [slabOf, k0_pay1, k0_pay360]

/-- Batch row `k`'s decoded adjacency. -/
theorem decRow_apply (u : FVec Ideal S90x1024 .f32) (k : Fin 32) (p q : Fin 90) :
    decRow u k (ix3 0 p q) = Model.decode (fun p' x => u (ix2 p' ⟨32 * k.val + x.val, by omega⟩)) p q := by
  pointwise [decRow]
  unfold Model.decode
  by_cases h : p = q
  · subst h
    simp [IntOp.cmpi, Scalar.select]
  · have hb : (BitVec.ofNat 32 p.val == BitVec.ofNat 32 q.val) = false := by
      rw [beq_eq_false_iff_ne]
      intro hh
      have h2 := congrArg BitVec.toNat hh
      rw [BitVec.toNat_ofNat, BitVec.toNat_ofNat, Nat.mod_eq_of_lt (by omega), Nat.mod_eq_of_lt (by omega)] at h2
      exact h (Fin.ext h2)
    rw [if_neg h]
    simp [IntOp.cmpi, Scalar.select, hb]

/-- The hidden state's projection for batch row `k`. -/
theorem proj1_apply (hid : FVec Ideal S32x1440 .f32) (w : Vec Ideal S16x32 .f32) (k : Fin 32) (p : Fin 90) (q : Fin 32) :
    proj1 hid w k (ix2 p q) = ∑ l : Fin 16, hid (ix2 k ⟨p.val * 16 + l.val, by omega⟩) * w (ix2 l q) := by
  pointwise [proj1]

/-- The decoder's hidden layer at batch row `k`'s column `q`. -/
theorem layer1_apply (hid : FVec Ideal S32x1440 .f32) (w : Vec Ideal S16x32 .f32) (adj : Vec Ideal S90x90 .f32) (p : Fin 90) (k q : Fin 32) :
    layer1 hid w adj (ix2 p ⟨32 * k.val + q.val, by omega⟩)
      = Model.embed (fun x y => adj (ix2 x y)) (fun x y => w (ix2 x y)) (fun d => hid (ix2 k d)) p q := by
  have hc : ∀ x : Fin 90, concatenate S90x1024 1 (List.ofFn fun n => (⟨S90x32, proj1 hid w n⟩ : (s : Shape) × (s.Idx → Ideal .f32))) (side_by_side _)
      (ix2 x ⟨32 * k.val + q.val, by omega⟩) = proj1 hid w k (ix2 x q) := fun x =>
    concatenate_ofFn_apply (s₁ := S90x32) (t := S90x1024) (1 : Fin 2) (fun n => proj1 hid w n) (side_by_side _) rfl 32 rfl
      (ix2 x ⟨32 * k.val + q.val, by omega⟩) k
      (by show (32 * k.val + q.val) / 32 = k.val; omega) (ix2 x q)
      (by show q.val = (32 * k.val + q.val) % 32; omega)
      (fun b hb => by
        match b, hb with
        | 0, _ => rfl
        | 1, hb => exact absurd rfl hb)
  unfold layer1
  generalize concatenate S90x1024 1 (List.ofFn fun n => (⟨S90x32, proj1 hid w n⟩ : (s : Shape) × (s.Idx → Ideal .f32))) (side_by_side _) = v at hc ⊢
  pointwise
  unfold Model.embed
  simp only [hc, proj1_apply]

end Cert.KernelIdeal.Value

end
-- ==== Proof.Value.KernelBlocks.lean ====
/- The kernel's two calls read at an index over the extended reals: the first call's array of projected inputs, the recurrence's
   states across the second call's grid, and the decoded array it leaves. -/
module

public import proofs.«01_k».proof.Proof.KernelIdeal.Region0
public import proofs.«01_k».proof.Proof.KernelIdeal.Region1
public import proofs.«01_k».proof.Proof.Value.KernelSteps
public import Idealize.ShloMosaic.Lib.Pipeline.ValueKit

@[expose] public section

set_option maxRecDepth 16384

noncomputable section

namespace Cert.KernelIdeal.Value

open Idealize.ShloMosaic Idealize.ShloMosaic.TcCoe Idealize.SL.Sem
open Cert.KernelIdeal Cert.KernelIdeal.Gen Cert.KernelIdeal.Hand

variable (V : (c : Dev nD) → (b : Ref sig .tc) → Buf (Elt Ideal) ((c : Thread nD τ).loc b))

/-- The arrays a call reads, at their entry contents. -/
def fcArr (c : Dev nD) : Fin 640 → Fin 90 → Fin 90 → EReal := fun n x y => (V c main_arg1 : Vec Ideal S640x90x90 .f32) (ix3 n x y)
def adjArr (c : Dev nD) : Fin 640 → Fin 90 → Fin 90 → EReal := fun n x y => (V c main_arg3 : Vec Ideal S640x90x90 .f32) (ix3 n x y)
def wfcArr (c : Dev nD) : Fin 90 → Fin 16 → EReal := fun x y => (V c main_arg6 : Vec Ideal S90x16 .f32) (ix2 x y)
def wxArr (c : Dev nD) : Fin 1440 → Fin 5760 → EReal := fun x y => (V c main_arg7 : Vec Ideal S1440x5760 .f32) (ix2 x y)
def whArr (c : Dev nD) : Fin 1440 → Fin 5760 → EReal := fun x y => (V c main_arg8 : Vec Ideal S1440x5760 .f32) (ix2 x y)
def biasArr (c : Dev nD) : Fin 5760 → EReal := fun y => (V c main_v0 : Vec Ideal S1x5760 .f32) (ix2 0 y)
def xpArr (c : Dev nD) : Fin 20 → Fin 32 → Fin 5760 → EReal := fun t b y => (V c main_v1 : Vec Ideal S20x32x5760 .bf16) (ix3 t b y)
def scArr (c : Dev nD) : Fin 90 → Fin 90 → EReal := fun x y => (V c main_arg2 : Vec Ideal S90x90 .f32) (ix2 x y)
def wscArr (c : Dev nD) : Fin 16 → Fin 32 → EReal := fun x y => (V c main_arg10 : Vec Ideal S16x32 .f32) (ix2 x y)

/-! ## The first call -/

/-- The block indices of the first call's windows: the feature and the adjacency halves at a point of the first column block, -/
theorem halves : ∀ k : Fin 4, win0_0.index (firstPt k) = ![2 * k.val, 0, 0] ∧ win0_1.index (firstPt k) = ![2 * k.val + 1, 0, 0]
    ∧ win0_2.index (firstPt k) = ![2 * k.val, 0, 0] ∧ win0_3.index (firstPt k) = ![2 * k.val + 1, 0, 0]
    ∧ win0_4.index (firstPt k) = ![0, 0] := by decide +kernel
/-- the weights' and the bias's column blocks and the output's blocks at every point. -/
theorem columns : ∀ t : Fin cfg0.N, win0_5.index t = ![0, t.val / 4] ∧ win0_6.index t = ![0, t.val / 4]
    ∧ win0_7.index t = ![0, t.val % 4, t.val / 4] := by decide +kernel

/-- Window `n` of a block of 80 graphs. -/
theorem winOf_apply (x : Vec Ideal S80x90x90 .f32) (n : Fin 80) (p q : Fin 90) : winOf x n (ix3 0 p q) = x (ix3 n p q) := by
  refine congrArg x (funext fun a => ?_)
  refine Fin.ext ?_
  fin_cases a <;> simp [Rect.unit, Rect.emb, ix3]

theorem blk0_0 (c : Dev nD) (k : Fin 4) (n : Fin 80) (p q : Fin 90) :
    (iblk0 V c 0 (firstPt k) : Vec Ideal S80x90x90 .f32) (ix3 n p q) = fcArr V c ⟨160 * k.val + n.val, by omega⟩ p q := by
  unfold fcArr; blk_ext [iblk0, (halves k).1]
theorem blk0_1 (c : Dev nD) (k : Fin 4) (n : Fin 80) (p q : Fin 90) :
    (iblk0 V c 1 (firstPt k) : Vec Ideal S80x90x90 .f32) (ix3 n p q) = fcArr V c ⟨160 * k.val + 80 + n.val, by omega⟩ p q := by
  unfold fcArr; blk_ext [iblk0, (halves k).2.1]
theorem blk0_2 (c : Dev nD) (k : Fin 4) (n : Fin 80) (p q : Fin 90) :
    (iblk0 V c 2 (firstPt k) : Vec Ideal S80x90x90 .f32) (ix3 n p q) = adjArr V c ⟨160 * k.val + n.val, by omega⟩ p q := by
  unfold adjArr; blk_ext [iblk0, (halves k).2.2.1]
theorem blk0_3 (c : Dev nD) (k : Fin 4) (n : Fin 80) (p q : Fin 90) :
    (iblk0 V c 3 (firstPt k) : Vec Ideal S80x90x90 .f32) (ix3 n p q) = adjArr V c ⟨160 * k.val + 80 + n.val, by omega⟩ p q := by
  unfold adjArr; blk_ext [iblk0, (halves k).2.2.2.1]
theorem blk0_4 (c : Dev nD) (k : Fin 4) (p : Fin 90) (q : Fin 16) :
    (iblk0 V c 4 (firstPt k) : Vec Ideal S90x16 .f32) (ix2 p q) = wfcArr V c p q := by
  unfold wfcArr; blk_ext [iblk0, (halves k).2.2.2.2]
theorem blk0_5 (c : Dev nD) (t : Fin cfg0.N) (x : Fin 1440) (y : Fin 1920) :
    (iblk0 V c 5 t : Vec Ideal S1440x1920 .f32) (ix2 x y) = wxArr V c x ⟨t.val / 4 * 1920 + y.val, by have : t.val < 12 := t.isLt; omega⟩ := by
  unfold wxArr; blk_ext [iblk0, (columns t).1]
theorem blk0_6 (c : Dev nD) (t : Fin cfg0.N) (y : Fin 1920) :
    (iblk0 V c 6 t : Vec Ideal S1x1920 .f32) (ix2 0 y) = biasArr V c ⟨t.val / 4 * 1920 + y.val, by have : t.val < 12 := t.isLt; omega⟩ := by
  unfold biasArr; blk_ext [iblk0, (columns t).2.1]

/-- The 160 graphs of batch block `k`, in two halves. -/
theorem halves_apply (g : Fin 640 → Fin 90 → Fin 90 → EReal) (x y : Vec Ideal S80x90x90 .f32) (k : Fin 4)
    (hx : ∀ (n : Fin 80) (p q : Fin 90), x (ix3 n p q) = g ⟨160 * k.val + n.val, by omega⟩ p q)
    (hy : ∀ (n : Fin 80) (p q : Fin 90), y (ix3 n p q) = g ⟨160 * k.val + 80 + n.val, by omega⟩ p q) (n : Fin 160) (p q : Fin 90) :
    twoBlocks (winOf x) (winOf y) n (ix3 0 p q) = g ⟨160 * k.val + n.val, by omega⟩ p q := by
  unfold twoBlocks
  by_cases h : n.val < 80
  · rw [dif_pos h, winOf_apply, hx]
  · rw [dif_neg h, winOf_apply, hy]
    exact congrArg (fun e => g e p q) (Fin.ext (by simp only; omega))

/-- The slab of batch block `k`, at its batch row `b`. -/
theorem slabAt_apply (c : Dev nD) (k : Fin 4) (b : Fin 8) (t : Fin 20) (d : Fin 1440) :
    slabAt V c k (ix3 b t d) = Model.inp (fcArr V c) (adjArr V c) (wfcArr V c) ⟨8 * k.val + b.val, by omega⟩ t d := by
  unfold slabAt slab
  rw [slabOf_apply, graph_apply]
  unfold Model.inp Model.feat
  simp only [halves_apply (adjArr V c) _ _ k (blk0_2 V c k) (blk0_3 V c k), halves_apply (fcArr V c) _ _ k (blk0_0 V c k) (blk0_1 V c k), blk0_4]
  have e : (⟨160 * k.val + (b.val * 20 + t.val), by omega⟩ : Fin 640) = ⟨(8 * k.val + b.val) * 20 + t.val, by omega⟩ := Fin.ext (by simp only; omega)
  rw [e]

/-- The projected inputs with the bias. -/
def projRow (c : Dev nD) (t : Fin 20) (b : Fin 32) (col : Fin 5760) : EReal :=
  ∑ k : Fin 1440, Model.inp (fcArr V c) (adjArr V c) (wfcArr V c) b t k * wxArr V c k col + biasArr V c col

/-- A point's output block, element by element. -/
theorem outAt0_apply (c : Dev nD) (p : Fin cfg0.N) (t : Fin 20) (b : Fin 8) (y : Fin 1920) :
    outAt0 V c p (ix3 t b y) = projRow V c t ⟨p.val % 4 * 8 + b.val, by omega⟩ ⟨p.val / 4 * 1920 + y.val, by have : p.val < 12 := p.isLt; omega⟩ := by
  unfold outAt0 projRow
  rw [proj_apply]
  simp only [slabAt_apply, blk0_5, blk0_6]
  have e : (⟨8 * (batchOf p).val + b.val, by omega⟩ : Fin 32) = ⟨p.val % 4 * 8 + b.val, by omega⟩ := Fin.ext (by simp only [batchOf]; omega)
  rw [e]

/-- The first call's output array: every entry is the projected input. -/
theorem array0 (c : Dev nD) :
    (dat0 V c).arrAt 7 cfg0.N = ((fun i : S20x32x5760.Idx => projRow V c (i 0) (i 1) (i 2)) : Vec Ideal S20x32x5760 .bf16) := by
  refine (dat0 V c).arrAt_eq_of_covers 7 _ (by decide +kernel) fun t hf y => ?_
  blk_simp
  rw [after0_7]
  refine (congrArg (outAt0 V c t) (eq_ix3 (y : S20x8x1920.Idx))).trans ((outAt0_apply V c t _ _ _).trans ?_)
  have ht : t.val < 12 := t.isLt
  have h1 : (y 1).val < 8 := (y 1).isLt
  have h2 : (y 2).val < 1920 := (y 2).isLt
  have he : (win0_7.blk t).view.emb y = (ix3 (y 0 : Fin 20) ⟨t.val % 4 * 8 + (y 1 : Fin 8).val, by omega⟩ ⟨t.val / 4 * 1920 + (y 2 : Fin 1920).val, by omega⟩ : S20x32x5760.Idx) := by
    blk_ext [(columns t).2.2]
  rw [he]
  rfl

/-! ## The second call -/

/-- The second call's windows: the projected inputs at the point's time, the others whole. -/
theorem times : ∀ t : Fin cfg1.N, win1_0.index t = ![t.val, 0, 0] ∧ win1_1.index t = ![0, 0] ∧ win1_2.index t = ![0, 0] ∧ win1_3.index t = ![0, 0] := by
  decide +kernel

theorem blk1_0 (c : Dev nD) (t : Fin cfg1.N) (b : Fin 32) (y : Fin 5760) :
    (iblk1 V c 0 t : Vec Ideal S1x32x5760 .bf16) (ix3 0 b y) = xpArr V c ⟨t.val, t.isLt⟩ b y := by
  unfold xpArr; blk_ext [iblk1, (times t).1]
theorem blk1_1 (c : Dev nD) (t : Fin cfg1.N) (x : Fin 1440) (y : Fin 5760) :
    (iblk1 V c 1 t : Vec Ideal S1440x5760 .f32) (ix2 x y) = whArr V c x y := by
  unfold whArr; blk_ext [iblk1, (times t).2.1]
theorem blk1_2 (c : Dev nD) (t : Fin cfg1.N) (x y : Fin 90) :
    (iblk1 V c 2 t : Vec Ideal S90x90 .f32) (ix2 x y) = scArr V c x y := by
  unfold scArr; blk_ext [iblk1, (times t).2.2.1]
theorem blk1_3 (c : Dev nD) (t : Fin cfg1.N) (x : Fin 16) (y : Fin 32) :
    (iblk1 V c 3 t : Vec Ideal S16x32 .f32) (ix2 x y) = wscArr V c x y := by
  unfold wscArr; blk_ext [iblk1, (times t).2.2.2]

/-- The kernel adds the bias before the hidden state's product, the model after it. -/
theorem gateRow_eq (c : Dev nD) (x : Fin 20 → Fin 32 → Fin 1440 → EReal) (wx : Fin 1440 → Fin 5760 → EReal) (bias : Fin 5760 → EReal)
    (hx : ∀ t b col, xpArr V c t b col = ∑ k, x t b k * wx k col + bias col) (t : Fin cfg1.N) (h : Vec Ideal S32x1440 .f32) (b : Fin 32) :
    gateRow (iblk1 V c 0 t) (iblk1 V c 1 t) h b = Model.affine wx (whArr V c) bias (x ⟨t.val, t.isLt⟩ b) (fun k => h (ix2 b k)) := by
  funext col
  unfold gateRow Model.affine
  simp only [blk1_0, blk1_1, hx]
  exact add_right_comm _ _ _

/-- The state after `n` steps is the model's. -/
theorem state_apply (c : Dev nD) (x : Fin 20 → Fin 32 → Fin 1440 → EReal) (wx : Fin 1440 → Fin 5760 → EReal) (bias : Fin 5760 → EReal)
    (hx : ∀ t b col, xpArr V c t b col = ∑ k, x t b k * wx k col + bias col) (b : Fin 32) :
    ∀ n, n ≤ 20 → (fun d => (state V c n).1 (ix2 b d)) = (Model.states wx (whArr V c) bias (fun t => x t b) n).1
      ∧ (fun d => (state V c n).2 (ix2 b d)) = (Model.states wx (whArr V c) bias (fun t => x t b) n).2
  | 0, _ => ⟨funext fun d => start_hid b d, funext fun d => start_cell b d⟩
  | n + 1, hn => by
    have ih := state_apply c x wx bias hx b n (by omega)
    have hs := state_succ V c (⟨n, by show n < 20; omega⟩ : Fin cfg1.N)
    have hm : n % 20 = n := Nat.mod_eq_of_lt (by omega)
    simp only at hs
    rw [hs]
    simp only [Model.states, hidNext_apply, cellNext_apply, gateRow_eq V c x wx bias hx, ih.1, ih.2, hm]
    exact ⟨trivial, trivial⟩

/-- The last grid point. -/
def lastPt : Fin cfg1.N := ⟨19, by show 19 < 20; omega⟩

/-- The decoded block of the last point, element by element. -/
theorem outAt1_apply (c : Dev nD) (x : Fin 20 → Fin 32 → Fin 1440 → EReal) (wx : Fin 1440 → Fin 5760 → EReal) (bias : Fin 5760 → EReal)
    (hx : ∀ t b col, xpArr V c t b col = ∑ k, x t b k * wx k col + bias col) (b : Fin 32) (p q : Fin 90) :
    outAt1 V c lastPt (ix3 b p q) = Model.decode (Model.embed (scArr V c) (wscArr V c) (Model.states wx (whArr V c) bias (fun t => x t b) 20).1) p q := by
  have h19 : (fun d => hidOut (iblk1 V c 0 lastPt) (iblk1 V c 1 lastPt) (state V c lastPt.val).1 (state V c lastPt.val).2 (ix2 b d))
      = (Model.states wx (whArr V c) bias (fun t => x t b) 20).1 := by
    have ih := state_apply V c x wx bias hx b 19 (by omega)
    funext d
    rw [hidOut_apply, gateRow_eq V c x wx bias hx]
    show Model.newHid (Model.affine wx (whArr V c) bias (x ⟨19, _⟩ b) (fun k => (state V c 19).1 (ix2 b k))) (fun k => (state V c 19).2 (ix2 b k)) d = _
    rw [ih.1, ih.2]
    rfl
  have hd : outAt1 V c lastPt (ix3 b p q)
      = decRow (layer1 (hidOut (iblk1 V c 0 lastPt) (iblk1 V c 1 lastPt) (state V c lastPt.val).1 (state V c lastPt.val).2) (iblk1 V c 3 lastPt) (iblk1 V c 2 lastPt)) b (ix3 0 p q) := by
    unfold outAt1 decoded
    refine congrArg (decRow _ b) (funext fun a => ?_)
    fin_cases a <;> rfl
  rw [hd, decRow_apply]
  simp only [layer1_apply, blk1_2, blk1_3, h19]

/-- The second call's output array. -/
theorem array1 (c : Dev nD) (x : Fin 20 → Fin 32 → Fin 1440 → EReal) (wx : Fin 1440 → Fin 5760 → EReal) (bias : Fin 5760 → EReal)
    (hx : ∀ t b col, xpArr V c t b col = ∑ k, x t b k * wx k col + bias col) :
    (dat1 V c).arrAt 4 cfg1.N = ((fun i : S32x90x90.Idx => Model.decode (Model.embed (scArr V c) (wscArr V c) (Model.states wx (whArr V c) bias (fun t => x t (i 0)) 20).1) (i 1) (i 2)) : Vec Ideal S32x90x90 .f32) := by
  refine (dat1 V c).arrAt_eq_of_after_last 4 lastPt (by decide +kernel) _ fun j => ?_
  blk_simp
  rw [after1_4]
  exact (congrArg (outAt1 V c lastPt) (eq_ix3 (j : S32x90x90.Idx))).trans (outAt1_apply V c x wx bias hx _ _ _)

end Cert.KernelIdeal.Value

end
-- ==== Proof.Value.KernelResult.lean ====
/- The kernel's result over the extended reals, as a function of its argument arrays. -/
module

public import proofs.«01_k».proof.Proof.KernelIdeal.Run
public import proofs.«01_k».proof.Proof.Value.KernelBlocks
public import Idealize.ShloMosaic.Lib.ValueLayout

@[expose] public section

set_option maxRecDepth 16384

noncomputable section

namespace Cert.KernelIdeal.Value

open Idealize.ShloMosaic Idealize.ShloMosaic.TcCoe Idealize.SL.Sem
open Cert.KernelIdeal Cert.KernelIdeal.Gen Cert.KernelIdeal.Hand

variable (m : (ℓ : Loc nD τ sig) → Buf (Elt Ideal) ℓ) (ρ : Dev nD → PrngReg)

/-- The result array as the model's function of the argument arrays. -/
def result (adj : Vec Ideal S90x90 .f32) (fc adjfc : Vec Ideal S640x90x90 .f32) (wfc : Vec Ideal S90x16 .f32) (wx wh : Vec Ideal S1440x5760 .f32)
    (bias : Vec Ideal S5760 .f32) (wsc : Vec Ideal S16x32 .f32) : Vec Ideal S32x8100 .f32 := fun i =>
  Model.decode (Model.embed (fun x y => adj (ix2 x y)) (fun x y => wsc (ix2 x y))
      (Model.states (fun x y => wx (ix2 x y)) (fun x y => wh (ix2 x y)) (fun y => bias (ix1 y))
        (fun t => Model.inp (fun n x y => fc (ix3 n x y)) (fun n x y => adjfc (ix3 n x y)) (fun x y => wfc (ix2 x y)) (i 0) t) 20).1)
    ⟨(i 1).val / 90, by have : (i 1).val < 8100 := (i 1).isLt; omega⟩ ⟨(i 1).val % 90, Nat.mod_lt _ (by decide)⟩

/-- The bias as the first call finds it: the argument, as one row. -/
theorem bias_entry (c : Dev nD) (y : Fin 5760) : biasArr (V1 m ρ) c y = (m ((c : Thread nD τ).loc main_arg9) : Vec Ideal S5760 .f32) (ix1 y) := by
  unfold biasArr
  have e : (V1 m ρ c main_v0 : Vec Ideal S1x5760 .f32) = shapeCast S1x5760 (m ((c : Thread nD τ).loc main_arg9) : Vec Ideal S5760 .f32) shapeCasts_S5760_S1x5760 := by
    show StableHlo.after hostOps0 (W0 m ρ c) (Proc.devRef .tc main_v0) = _
    after_results
    rfl
  rw [e]
  exact ValueIdx.shapeCast_a_1a_apply _ _ _ _

/-- The other arrays as the first call finds them. -/
theorem args1 (c : Dev nD) : fcArr (V1 m ρ) c = (fun n x y => (m ((c : Thread nD τ).loc main_arg1) : Vec Ideal S640x90x90 .f32) (ix3 n x y))
    ∧ adjArr (V1 m ρ) c = (fun n x y => (m ((c : Thread nD τ).loc main_arg3) : Vec Ideal S640x90x90 .f32) (ix3 n x y))
    ∧ wfcArr (V1 m ρ) c = (fun x y => (m ((c : Thread nD τ).loc main_arg6) : Vec Ideal S90x16 .f32) (ix2 x y))
    ∧ wxArr (V1 m ρ) c = (fun x y => (m ((c : Thread nD τ).loc main_arg7) : Vec Ideal S1440x5760 .f32) (ix2 x y)) := by
  unfold fcArr adjArr wfcArr wxArr
  refine ⟨?_, ?_, ?_, ?_⟩
  · rw [show V1 m ρ c main_arg1 = _ from W1_args m ρ c main_arg1 (by decide)]
  · rw [show V1 m ρ c main_arg3 = _ from W1_args m ρ c main_arg3 (by decide)]
  · rw [show V1 m ρ c main_arg6 = _ from W1_args m ρ c main_arg6 (by decide)]
  · rw [show V1 m ρ c main_arg7 = _ from W1_args m ρ c main_arg7 (by decide)]

/-- The arrays as the second call finds them. -/
theorem args2 (c : Dev nD) : scArr (V2 m ρ) c = (fun x y => (m ((c : Thread nD τ).loc main_arg2) : Vec Ideal S90x90 .f32) (ix2 x y))
    ∧ wscArr (V2 m ρ) c = (fun x y => (m ((c : Thread nD τ).loc main_arg10) : Vec Ideal S16x32 .f32) (ix2 x y))
    ∧ whArr (V2 m ρ) c = (fun x y => (m ((c : Thread nD τ).loc main_arg8) : Vec Ideal S1440x5760 .f32) (ix2 x y)) := by
  unfold scArr wscArr whArr
  refine ⟨?_, ?_, ?_⟩
  · rw [show V2 m ρ c main_arg2 = _ from W2_args m ρ c main_arg2 (by decide)]
  · rw [show V2 m ρ c main_arg10 = _ from W2_args m ρ c main_arg10 (by decide)]
  · rw [show V2 m ρ c main_arg8 = _ from W2_args m ρ c main_arg8 (by decide)]

/-- The second call finds the first call's projected inputs. -/
theorem inputs2 (c : Dev nD) (t : Fin 20) (b : Fin 32) (col : Fin 5760) :
    xpArr (V2 m ρ) c t b col = projRow (V1 m ρ) c t b col := by
  unfold xpArr
  rw [show V2 m ρ c main_v1 = _ from (W2_arr m ρ c 7).trans (array0 (V1 m ρ) c)]
  rfl

/-- The kernel's result. -/
theorem result_eq (c : Dev nD) :
    (W4 m ρ c (Proc.devRef .tc main_v3) : Vec Ideal S32x8100 .f32)
      = result (m ((c : Thread nD τ).loc main_arg2)) (m ((c : Thread nD τ).loc main_arg1)) (m ((c : Thread nD τ).loc main_arg3)) (m ((c : Thread nD τ).loc main_arg6))
          (m ((c : Thread nD τ).loc main_arg7)) (m ((c : Thread nD τ).loc main_arg8)) (m ((c : Thread nD τ).loc main_arg9)) (m ((c : Thread nD τ).loc main_arg10)) := by
  have e : (W4 m ρ c (Proc.devRef .tc main_v3) : Vec Ideal S32x8100 .f32)
      = shapeCast S32x8100 (W3 m ρ c (Proc.devRef .tc main_v2) : Vec Ideal S32x90x90 .f32) shapeCasts_S32x90x90_S32x8100 := by
    after_results
    rfl
  have hx : ∀ t b col, xpArr (V2 m ρ) c t b col
      = ∑ k, Model.inp (fcArr (V1 m ρ) c) (adjArr (V1 m ρ) c) (wfcArr (V1 m ρ) c) b t k * wxArr (V1 m ρ) c k col + biasArr (V1 m ρ) c col :=
    fun t b col => inputs2 m ρ c t b col
  have h3 := (W3_arr m ρ c 4).trans (array1 (V2 m ρ) c (fun t b => Model.inp (fcArr (V1 m ρ) c) (adjArr (V1 m ρ) c) (wfcArr (V1 m ρ) c) b t) _ _ hx)
  rw [e, show W3 m ρ c (Proc.devRef .tc main_v2) = _ from h3]
  funext i
  idx_vars i
  pointwise [result]
  rw [(args1 m ρ c).1, (args1 m ρ c).2.1, (args1 m ρ c).2.2.1, (args1 m ρ c).2.2.2, (args2 m ρ c).1, (args2 m ρ c).2.1, (args2 m ρ c).2.2,
    show biasArr (V1 m ρ) c = _ from funext (bias_entry m ρ c)]

end Cert.KernelIdeal.Value

end
-- ==== Proof.Value.Reference.lean ====
/- The reference's result over the extended reals, as a function of its argument arrays: the loop's entry, one trip of the loop, the
   state after every trip, and the decoder. -/
module

public import proofs.«01_k».proof.Proof.Gen.ReferenceIdeal.Run
public import proofs.«01_k».proof.Proof.Value.Model
public import Idealize.ShloMosaic.Lib.Pointwise
public import Idealize.ShloMosaic.Lib.DynamicIndex

@[expose] public section

set_option maxRecDepth 16384

noncomputable section

namespace Cert.ReferenceIdeal.Hand

open Idealize.ShloMosaic Idealize.ShloMosaic.TcCoe Idealize.SL.Sem Idealize.ShloMosaic.StableHlo
open Cert.ReferenceIdeal Cert.ReferenceIdeal.Gen Cert.ReferenceIdeal.Value

/-- The buffers' contents on one core. -/
abbrev Vals := Valuation τ sig (Elt Ideal)

/-- The loop's inputs, one array per trip. -/
abbrev xsOf (V : Vals) : Vec Ideal S20x32x1440 .f32 := V (Proc.devRef .tc main_v7_0)
/-- The input weights the loop carries. -/
abbrev wxOf (V : Vals) : Vec Ideal S1440x5760 .f32 := V (Proc.devRef .tc main_v7_1)
/-- The recurrent weights the loop carries. -/
abbrev whOf (V : Vals) : Vec Ideal S1440x5760 .f32 := V (Proc.devRef .tc main_v7_2)
/-- The bias the loop carries. -/
abbrev biasOf (V : Vals) : Vec Ideal S5760 .f32 := V (Proc.devRef .tc main_v7_3)
/-- The loop's counter. -/
abbrev ctrOf (V : Vals) : IVec S_ 32 := V (Proc.devRef .tc main_v7_4)
/-- The hidden state the loop carries. -/
abbrev hidOf (V : Vals) : Vec Ideal S32x1440 .f32 := V (Proc.devRef .tc main_v7_5)
/-- The cell the loop carries. -/
abbrev cellOf (V : Vals) : Vec Ideal S32x1440 .f32 := V (Proc.devRef .tc main_v7_6)

/-- Batch row `b`'s gates before their nonlinearities, at trip `k`. -/
def zOf (V : Vals) (k : Fin 20) (b : Fin 32) : Fin 5760 → EReal :=
  Model.affine (fun x y => wxOf V (ix2 x y)) (fun x y => whOf V (ix2 x y)) (fun y => biasOf V (ix1 y)) (fun d => xsOf V (ix3 k b d)) (fun d => hidOf V (ix2 b d))

/-- The input read at trip `k`. -/
theorem input_apply (x : Vec Ideal S20x32x1440 .f32) (ctr : IVec S_ 32) (k : Fin 20) (hk : ctr = fun _ => BitVec.ofNat 32 k.val) (b : Fin 32) (d : Fin 1440) :
    (shapeCast S32x1440 (Host.dynamicSlice S1x32x1440 x (fun a => ((![ctr, constantI S_ 32 0#32, constantI S_ 32 0#32] : Fin 3 → IVec S_ 32) a (Shape.Idx.first h_S_)).toInt) sliceFits_S20x32x1440_S1x32x1440)
      shapeCasts_S1x32x1440_S32x1440 : Vec Ideal S32x1440 .f32) (ix2 b d) = x (ix3 k b d) := by
  subst hk
  have hs : S20x32x1440.Slices ![k.val, 0, 0] S1x32x1440 := ⟨rfl, fun a => by fin_cases a <;> simp <;> omega⟩
  rw [Host.dynamicSlice_eq_extractStridedSlice S1x32x1440 x _ ![k.val, 0, 0] _ hs (fun a => by
    fin_cases a
    · show (BitVec.ofNat 32 k.val).toInt = (k.val : Int)
      rw [BitVec.toInt_ofNat', Int.bmod_eq_of_le] <;> omega
    · rfl
    · rfl)]
  pointwise

/-- The affine map of one row, from whole arrays. -/
theorem affine_apply (x h : FVec Ideal S32x1440 .f32) (wx wh : FVec Ideal S1440x5760 .f32) (bias : FVec Ideal S5760 .f32) (b : Fin 32) (col : Fin 5760) :
    addf (addf (Host.dotGeneral dot_S32x1440_S1440x5760_S32x5760_1_0_0_1_n_n none x wx) (Host.dotGeneral dot_S32x1440_S1440x5760_S32x5760_1_0_0_1_n_n none h wh))
      (broadcastInDim S32x5760 ![0, 1] bcast_S1x5760_S32x5760_0_1 (broadcastInDim S1x5760 ![1] bcast_S5760_S1x5760_1 bias)) (ix2 b col)
      = Model.affine (fun x y => wx (ix2 x y)) (fun x y => wh (ix2 x y)) (fun y => bias (ix1 y)) (fun d => x (ix2 b d)) (fun d => h (ix2 b d)) col := by
  pointwise
  rfl

/-- The gates at trip `k`. -/
theorem z_apply (V : Vals) (k : Fin 20) (hk : ctrOf V = fun _ => BitVec.ofNat 32 k.val) (b : Fin 32) (col : Fin 5760) :
    (res_main_while0b_v38 V : Vec Ideal S32x5760 .f32) (ix2 b col) = zOf V k b col := by
  refine (affine_apply _ (hidOf V) (wxOf V) (whOf V) (biasOf V) b col).trans ?_
  unfold zOf
  exact congrArg (fun f => Model.affine _ _ _ f _ col) (funext fun d => input_apply (xsOf V) (ctrOf V) k hk b d)

/-- The new cell of trip `k`. -/
theorem cell_apply (V : Vals) (k : Fin 20) (hk : ctrOf V = fun _ => BitVec.ofNat 32 k.val) (b : Fin 32) (d : Fin 1440) :
    (res_main_while0b_v64 V : Vec Ideal S32x1440 .f32) (ix2 b d) = Model.newCell (zOf V k b) (fun d => cellOf V (ix2 b d)) d := by
  have hz := z_apply V k hk b
  unfold res_main_while0b_v64
  generalize res_main_while0b_v38 V = z at hz ⊢
  pointwise
  unfold Model.newCell
  simp only [← hz]
  rfl

/-- The new hidden state of trip `k`. -/
theorem hid_apply (V : Vals) (k : Fin 20) (hk : ctrOf V = fun _ => BitVec.ofNat 32 k.val) (b : Fin 32) (d : Fin 1440) :
    (step_main_v7_5 V : Vec Ideal S32x1440 .f32) (ix2 b d) = Model.newHid (zOf V k b) (fun d => cellOf V (ix2 b d)) d := by
  have hz := z_apply V k hk b
  have hc := cell_apply V k hk b
  unfold step_main_v7_5
  rw [id_eq]
  unfold Model.newHid
  rw [← hc, ← hz]
  generalize res_main_while0b_v38 V = z
  generalize res_main_while0b_v64 V = y
  pointwise
  rfl

variable (m : (ℓ : Loc nD τ sig) → Buf (Elt Ideal) ℓ)

/-- The model's input of batch row `b`, from the argument arrays. -/
def inputs (c : Dev nD) (b : Fin 32) : Fin 20 → Fin 1440 → EReal :=
  Model.inp (fun n x y => (m ((c.tc : Thread nD τ).loc main_arg1) : Vec Ideal S640x90x90 .f32) (ix3 n x y))
    (fun n x y => (m ((c.tc : Thread nD τ).loc main_arg3) : Vec Ideal S640x90x90 .f32) (ix3 n x y))
    (fun x y => (m ((c.tc : Thread nD τ).loc main_arg6) : Vec Ideal S90x16 .f32) (ix2 x y)) b

/-- The model's states of batch row `b`, from the argument arrays. -/
def modelStates (c : Dev nD) (b : Fin 32) : ℕ → (Fin 1440 → EReal) × (Fin 1440 → EReal) :=
  Model.states (fun x y => (m ((c.tc : Thread nD τ).loc main_arg7) : Vec Ideal S1440x5760 .f32) (ix2 x y))
    (fun x y => (m ((c.tc : Thread nD τ).loc main_arg8) : Vec Ideal S1440x5760 .f32) (ix2 x y))
    (fun y => (m ((c.tc : Thread nD τ).loc main_arg9) : Vec Ideal S5760 .f32) (ix1 y)) (inputs m c b)

/-- The loop enters with the weights and the bias it was given, and a zero state. -/
theorem entry_rest (c : Dev nD) :
    wxOf (entryContents preI m c) = m ((c.tc : Thread nD τ).loc main_arg7) ∧ whOf (entryContents preI m c) = m ((c.tc : Thread nD τ).loc main_arg8)
    ∧ biasOf (entryContents preI m c) = m ((c.tc : Thread nD τ).loc main_arg9)
    ∧ hidOf (entryContents preI m c) = broadcastInDim S32x1440 ![] bcast_S_S32x1440 (constant (F := Ideal) S_ .f32 0x00000000#32)
    ∧ cellOf (entryContents preI m c) = broadcastInDim S32x1440 ![] bcast_S_S32x1440 (constant (F := Ideal) S_ .f32 0x00000000#32) := by
  refine ⟨?_, ?_, ?_, ?_, ?_⟩ <;>
  · simp only [entryContents, afterL_cons, afterL_nil]
    after_reads_simp
    rfl

/-- The features of every graph, laid out as one array of rows per trip. -/
def features (fc adj : FVec Ideal S640x90x90 .f32) (w : FVec Ideal S90x16 .f32) : FVec Ideal S20x32x1440 .f32 :=
  transpose S20x32x1440 [1, 0, 2] (shapeCast S32x20x1440 (maximumf (Host.dotGeneral dot_S640x90x90_S640x90x16_S640x90x16_2_1_1_2_0_0 none
    adj (Host.dotGeneral dot_S640x90x90_S90x16_S640x90x16_2_0_01_1_n_n none fc w))
    (broadcastInDim S640x90x16 ![] bcast_S_S640x90x16 (constant (F := Ideal) S_ .f32 0x00000000#32))) shapeCasts_S640x90x16_S32x20x1440) transposes_S32x20x1440_S20x32x1440_1_0_2

/-- One feature, by its trip, batch row and coordinate. -/
theorem features_apply (fc adj : FVec Ideal S640x90x90 .f32) (w : FVec Ideal S90x16 .f32) (t : Fin 20) (b : Fin 32) (d : Fin 1440) :
    features fc adj w (ix3 t b d) = Model.inp (fun n x y => fc (ix3 n x y)) (fun n x y => adj (ix3 n x y)) (fun x y => w (ix2 x y)) b t d := by
  pointwise [features]
  unfold Model.inp Model.feat
  rfl

/-- The loop enters with the features of every graph. -/
theorem entry_xs (c : Dev nD) (t : Fin 20) (b : Fin 32) (d : Fin 1440) : xsOf (entryContents preI m c) (ix3 t b d) = inputs m c b t d := by
  have e : xsOf (entryContents preI m c) = features (m ((c.tc : Thread nD τ).loc main_arg1)) (m ((c.tc : Thread nD τ).loc main_arg3)) (m ((c.tc : Thread nD τ).loc main_arg6)) := by
    simp only [entryContents, afterL_cons, afterL_nil]
    after_reads_simp
    rfl
  rw [e]
  exact features_apply _ _ _ t b d

/-- What the loop carries before trip `k`, from contents `E` that hold the inputs, the weights, the bias, a zero counter and a zero state. -/
theorem carried (c : Dev nD) (E : Vals) (hxs : ∀ t b d, xsOf E (ix3 t b d) = inputs m c b t d) (hctr : ctrOf E = fun _ => 0#32)
    (hrest : wxOf E = m ((c.tc : Thread nD τ).loc main_arg7) ∧ whOf E = m ((c.tc : Thread nD τ).loc main_arg8) ∧ biasOf E = m ((c.tc : Thread nD τ).loc main_arg9)
      ∧ hidOf E = broadcastInDim S32x1440 ![] bcast_S_S32x1440 (constant (F := Ideal) S_ .f32 0x00000000#32)
      ∧ cellOf E = broadcastInDim S32x1440 ![] bcast_S_S32x1440 (constant (F := Ideal) S_ .f32 0x00000000#32)) : ∀ k : ℕ, k ≤ 20 →
    (xsOf (STEP^[k] E) = xsOf E
    ∧ wxOf (STEP^[k] E) = m ((c.tc : Thread nD τ).loc main_arg7)
    ∧ whOf (STEP^[k] E) = m ((c.tc : Thread nD τ).loc main_arg8)
    ∧ biasOf (STEP^[k] E) = m ((c.tc : Thread nD τ).loc main_arg9)
    ∧ ctrOf (STEP^[k] E) = (fun _ => BitVec.ofNat 32 k)
    ∧ (∀ b d, hidOf (STEP^[k] E) (ix2 b d) = (modelStates m c b k).1 d)
    ∧ (∀ b d, cellOf (STEP^[k] E) (ix2 b d) = (modelStates m c b k).2 d))
  | 0, _ => by
    obtain ⟨h1, h2, h3, h5, h6⟩ := hrest
    refine ⟨rfl, h1, h2, h3, hctr, fun b d => ?_, fun b d => ?_⟩
    · show hidOf E (ix2 b d) = 0
      rw [h5]
      pointwise
    · show cellOf E (ix2 b d) = 0
      rw [h6]
      pointwise
  | k + 1, hk => by
    obtain ⟨h0, h1, h2, h3, h4, h5, h6⟩ := carried c E hxs hctr hrest k (by omega)
    rw [Function.iterate_succ_apply']
    generalize STEP^[k] E = V at h0 h1 h2 h3 h4 h5 h6 ⊢
    have hz : ∀ b, zOf V ⟨k, by omega⟩ b = Model.affine (fun x y => (m ((c.tc : Thread nD τ).loc main_arg7) : Vec Ideal S1440x5760 .f32) (ix2 x y))
        (fun x y => (m ((c.tc : Thread nD τ).loc main_arg8) : Vec Ideal S1440x5760 .f32) (ix2 x y))
        (fun y => (m ((c.tc : Thread nD τ).loc main_arg9) : Vec Ideal S5760 .f32) (ix1 y)) (inputs m c b ⟨k % 20, Nat.mod_lt _ (by decide)⟩) (modelStates m c b k).1 := by
      intro b
      have hk' : (⟨k % 20, Nat.mod_lt _ (by decide)⟩ : Fin 20) = ⟨k, by omega⟩ := Fin.ext (Nat.mod_eq_of_lt (by omega))
      unfold zOf
      rw [h0, h1, h2, h3, hk', show (fun d => hidOf V (ix2 b d)) = (modelStates m c b k).1 from funext (h5 b),
        show (fun d => xsOf E (ix3 ⟨k, by omega⟩ b d)) = inputs m c b ⟨k, by omega⟩ from funext (hxs ⟨k, by omega⟩ b)]
    have hcell : ∀ b, (fun d => cellOf V (ix2 b d)) = (modelStates m c b k).2 := fun b => funext (h6 b)
    refine ⟨(STEP_main_v7_0 V).trans h0, (STEP_main_v7_1 V).trans h1, (STEP_main_v7_2 V).trans h2, (STEP_main_v7_3 V).trans h3, ?_, fun b d => ?_, fun b d => ?_⟩
    · refine (STEP_main_v7_4 V).trans ?_
      show addi (ctrOf V) (constantI S_ 32 1#32) = _
      rw [h4]
      funext i
      show BitVec.ofNat 32 k + 1#32 = BitVec.ofNat 32 (k + 1)
      rw [BitVec.ofNat_add]
    · exact (congrFun (STEP_main_v7_5 V) (ix2 b d)).trans ((hid_apply V ⟨k, by omega⟩ h4 b d).trans (by
        rw [hz, hcell]
        unfold modelStates
        rw [Model.states]))
    · exact (congrFun (STEP_main_v7_6 V) (ix2 b d)).trans ((cell_apply V ⟨k, by omega⟩ h4 b d).trans (by
        rw [hz, hcell]
        unfold modelStates
        rw [Model.states]))

/-- The identity matrix, as the reference converts it from a comparison of positions. -/
def eye : FVec Ideal S90x90 .f32 :=
  uitofp .f32 (cmpi .eq (addi (iotaInDim S90x90 32 0) (broadcastInDim S90x90 ![] bcast_S_S90x90 (constantI S_ 32 0#32))) (iotaInDim S90x90 32 1))

/-- Its entries. -/
theorem eye_apply (p q : Fin 90) : eye (ix2 p q) = if p = q then 1 else 0 := by
  pointwise [eye]
  by_cases h : p = q
  · subst h
    rw [if_pos rfl]
    simp [IntOp.cmpi, IntOp.addi, FloatOps.uitofp]
  · have hb : ¬ BitVec.ofNat 32 p.val = BitVec.ofNat 32 q.val := by
      intro hh
      have h2 := congrArg BitVec.toNat hh
      rw [BitVec.toNat_ofNat, BitVec.toNat_ofNat, Nat.mod_eq_of_lt (by omega), Nat.mod_eq_of_lt (by omega)] at h2
      exact h (Fin.ext h2)
    rw [if_neg h]
    simp [IntOp.cmpi, IntOp.addi, FloatOps.uitofp, hb]

/-- The decoder's hidden layer, over the whole batch. -/
def hidden (adj : FVec Ideal S90x90 .f32) (w : FVec Ideal S16x32 .f32) (h : FVec Ideal S32x1440 .f32) : FVec Ideal S32x90x32 .f32 :=
  maximumf (Host.dotGeneral dot_S32x90x90_S32x90x32_S32x90x32_2_1_1_2_0_0 none (broadcastInDim S32x90x90 ![0, 1, 2] bcast_S1x90x90_S32x90x90_0_1_2 (broadcastInDim S1x90x90 ![1, 2] bcast_S90x90_S1x90x90_1_2 adj))
    (Host.dotGeneral dot_S32x90x16_S16x32_S32x90x32_2_0_01_1_n_n none (shapeCast S32x90x16 h shapeCasts_S32x1440_S32x90x16) w)) (broadcastInDim S32x90x32 ![] bcast_S_S32x90x32 (constant (F := Ideal) S_ .f32 0x00000000#32))

/-- Its entries. -/
theorem hidden_apply (adj : FVec Ideal S90x90 .f32) (w : FVec Ideal S16x32 .f32) (h : FVec Ideal S32x1440 .f32) (b : Fin 32) (p : Fin 90) (q : Fin 32) :
    hidden adj w h (ix3 b p q) = Model.embed (fun x y => adj (ix2 x y)) (fun x y => w (ix2 x y)) (fun d => h (ix2 b d)) p q := by
  pointwise [hidden]
  unfold Model.embed
  rfl

/-- The decoder's result, of its hidden layer and the identity matrix. -/
def outputs (u : FVec Ideal S32x90x32 .f32) (e : FVec Ideal S90x90 .f32) : FVec Ideal S32x8100 .f32 :=
  shapeCast S32x8100 (addf (mulf (maximumf (Host.dotGeneral dot_S32x90x32_S32x32x90_S32x90x90_2_1_1_2_0_0 none u (transpose S32x32x90 [0, 2, 1] u transposes_S32x90x32_S32x32x90_0_2_1))
      (broadcastInDim S32x90x90 ![] bcast_S_S32x90x90 (constant (F := Ideal) S_ .f32 0x00000000#32)))
      (broadcastInDim S32x90x90 ![0, 1, 2] bcast_S1x90x90_S32x90x90_0_1_2 (broadcastInDim S1x90x90 ![1, 2] bcast_S90x90_S1x90x90_1_2 (subf (broadcastInDim S90x90 ![] bcast_S_S90x90 (constant (F := Ideal) S_ .f32 0x3F800000#32)) e))))
    (broadcastInDim S32x90x90 ![0, 1, 2] bcast_S1x90x90_S32x90x90_0_1_2 (broadcastInDim S1x90x90 ![1, 2] bcast_S90x90_S1x90x90_1_2 e))) shapeCasts_S32x90x90_S32x8100

/-- Its entries: on the diagonal the product is scaled by zero and one is added, off it the product is kept. -/
theorem outputs_apply (u : FVec Ideal S32x90x32 .f32) (b : Fin 32) (e : Fin 8100) :
    outputs u eye (ix2 b e) = Model.decode (fun p q => u (ix3 b p q)) ⟨e.val / 90, by omega⟩ ⟨e.val % 90, Nat.mod_lt _ (by decide)⟩ := by
  have he := eye_apply
  generalize eye = i at he ⊢
  pointwise [outputs, he]
  unfold Model.decode
  have h10 : (1 : EReal) - 1 = 0 := EReal.sub_self (by decide) (by decide)
  split_ifs
  · rw [h10, mul_zero, zero_add]
  · rw [sub_zero, mul_one, add_zero]

/-- The decoder at graph `b`, entry `e`. -/
theorem decoded (V : Vals) (b : Fin 32) (e : Fin 8100) :
    (out_main_v31 V : Vec Ideal S32x8100 .f32) (ix2 b e)
      = Model.decode (Model.embed (fun x y => (V (Proc.devRef .tc main_arg2) : Vec Ideal S90x90 .f32) (ix2 x y)) (fun x y => (V (Proc.devRef .tc main_arg10) : Vec Ideal S16x32 .f32) (ix2 x y)) (fun d => hidOf V (ix2 b d)))
        ⟨e.val / 90, by omega⟩ ⟨e.val % 90, Nat.mod_lt _ (by decide)⟩ := by
  have h : (out_main_v31 V : Vec Ideal S32x8100 .f32) = outputs (hidden (V (Proc.devRef .tc main_arg2)) (V (Proc.devRef .tc main_arg10)) (hidOf V)) eye := rfl
  rw [h, outputs_apply]
  exact congrArg (fun u => Model.decode u _ _) (funext fun p => funext fun q => hidden_apply _ _ _ b p q)

/-- The reference's result at row `b`, entry `e`: the decoder on the state after 20 steps. -/
theorem result_apply (c : Dev nD) (b : Fin 32) (e : Fin 8100) :
    (out_main_v31 (STEP^[20] (entryContents preI m c)) : Vec Ideal S32x8100 .f32) (ix2 b e)
      = Model.decode (Model.embed (fun x y => (m ((c.tc : Thread nD τ).loc main_arg2) : Vec Ideal S90x90 .f32) (ix2 x y))
          (fun x y => (m ((c.tc : Thread nD τ).loc main_arg10) : Vec Ideal S16x32 .f32) (ix2 x y)) (modelStates m c b 20).1)
        ⟨e.val / 90, by omega⟩ ⟨e.val % 90, Nat.mod_lt _ (by decide)⟩ := by
  obtain ⟨_, _, _, _, _, h5, _⟩ := carried m c (entryContents preI m c) (entry_xs m c) (ctr_entry m c) (entry_rest m c) 20 le_rfl
  have a2 := iter_main_arg2 m c 20
  have a10 := iter_main_arg10 m c 20
  generalize STEP^[20] (entryContents preI m c) = V at h5 a2 a10 ⊢
  rw [decoded, a2, a10, show (fun d => hidOf V (ix2 b d)) = (modelStates m c b 20).1 from funext (h5 b)]

end Cert.ReferenceIdeal.Hand

end
-- ==== Proof.lean ====
/- The proof of the five claims: the frames of the kernel, of the kernel over the extended reals and of the reference, and the
   equality of the kernel's and the reference's results over the extended reals. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Kernel.Run
public import proofs.«01_k».proof.Proof.Value.KernelResult
public import proofs.«01_k».proof.Proof.Value.Reference
public import Idealize.ShloMosaic.Lib.Quiescent
public import Idealize.ShloMosaic.Adequacy
public import Idealize.ShloMosaic.Init

@[expose] public section

noncomputable section

namespace Cert.Proof

open Idealize.ShloMosaic Idealize.ShloMosaic.StableHlo Idealize.SL.Sem

/-- The reference terminates without fault, its argument arrays as launched and every semaphore counter at zero. -/
theorem frame_reference : Cert.quiescent_ReferenceIdeal (hReferenceIdeal := Cert.ReferenceIdeal.Gen.facts) := fun m g _ =>
  (θ_run Cert.ReferenceIdeal.defs _ _).mono (fun r h => ⟨fun c => (h c).2, sem_eq_zero_of_no_sems rfl _⟩) (Cert.ReferenceIdeal.Value.run (F := Ideal) m g)

/-- From memories that agree on the arguments, the kernel's result and the reference's are one array. -/
theorem results_agree (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (c : Dev Cert.KernelIdeal.nD)
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) :
    (Cert.ReferenceIdeal.Value.out_main_v31 (Cert.ReferenceIdeal.Value.STEP^[20] (entryContents Cert.ReferenceIdeal.Value.preI m' c)) : Vec Ideal Cert.KernelIdeal.S32x8100 .f32)
      = (Cert.KernelIdeal.Hand.W4 m g c (Proc.devRef .tc Cert.KernelIdeal.main_v3) : Vec Ideal Cert.KernelIdeal.S32x8100 .f32) := by
  rw [Cert.KernelIdeal.Value.result_eq]
  funext i
  idx_vars i
  refine (Cert.ReferenceIdeal.Hand.result_apply m' c _ _).trans ?_
  unfold Cert.ReferenceIdeal.Hand.modelStates Cert.ReferenceIdeal.Hand.inputs
  rw [h1, h2, h3, h6, h7, h8, h9, h10]
  rfl

/-- The five claims. -/
theorem claim : Cert.Claim := ⟨Cert.Kernel.Gen.facts, Cert.KernelIdeal.Gen.facts, Cert.ReferenceIdeal.Gen.facts,
  fun m g _ => Cert.Kernel.Hand.frame m g, fun m g _ => Cert.KernelIdeal.Hand.frame m g, frame_reference, trivial, fun m g m' g' _ ha => by
  refine ⟨fun c => Cert.KernelIdeal.Hand.W4 m g c (Proc.devRef .tc Cert.KernelIdeal.main_v3), ?_, ?_⟩
  · refine (θ_run Cert.KernelIdeal.defs _ _).mono (fun r h c => ⟨h.1 c _ (Cert.KernelIdeal.Hand.mem_uc _ (by decide)), ?_⟩) (Cert.KernelIdeal.Hand.run (F := Ideal) m g)
    have k := fun a ha => Cert.KernelIdeal.Hand.kept m g h.1 c a ha
    exact ⟨k _ (by decide), k _ (by decide), k _ (by decide), k _ (by decide), k _ (by decide), k _ (by decide), k _ (by decide), k _ (by decide), k _ (by decide),
      k _ (by decide), k _ (by decide)⟩
  · refine (θ_run Cert.ReferenceIdeal.defs _ _).mono (fun r h c => ⟨(h c).1.trans ?_, (h c).2⟩) (Cert.ReferenceIdeal.Value.run (F := Ideal) m' g')
    obtain ⟨_, a1, a2, a3, _, _, a6, a7, a8, a9, a10⟩ := ha c
    exact results_agree m g m' c a1 a2 a3 a6 a7 a8 a9 a10⟩

end Cert.Proof

end
